-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_centres_finite [hPre_centres_finite : Cert.Pre_centres_finite.Facts] (m : (ℓ : Loc Cert.KernelIdeal.nD Cert.KernelIdeal.τ Cert.KernelIdeal.sig) → Buf (Elt Ideal) ℓ) : Prop :=
  ∀ c : Dev Cert.KernelIdeal.nD,
    (Cert.Pre_centres_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_centres_finite [hPre_centres_finite : Cert.Pre_centres_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_centres_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_centres_finite [hKernelIdeal : Cert.KernelIdeal.Facts] [hPre_centres_finite : Cert.Pre_centres_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_centres_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_centres_finite [hReferenceIdeal : Cert.ReferenceIdeal.Facts] [hPre_centres_finite : Cert.Pre_centres_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_centres_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_centres_finite [hKernelIdeal : Cert.KernelIdeal.Facts] [hReferenceIdeal : Cert.ReferenceIdeal.Facts] [hPre_centres_finite : Cert.Pre_centres_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_centres_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_centres_finite : Cert.Pre_centres_finite.Facts),
    quiescent_Kernel (hKernel := hKernel)
    ∧ quiescent_KernelIdeal (hKernelIdeal := hKernelIdeal)
    ∧ quiescent_KernelIdeal_pre_centres_finite (hKernelIdeal := hKernelIdeal) (hPre_centres_finite := hPre_centres_finite)
    ∧ quiescent_ReferenceIdeal (hReferenceIdeal := hReferenceIdeal)
    ∧ quiescent_ReferenceIdeal_pre_centres_finite (hReferenceIdeal := hReferenceIdeal) (hPre_centres_finite := hPre_centres_finite)
    ∧ preserves_Kernel_KernelIdeal
    ∧ algebraic_KernelIdeal_ReferenceIdeal_pre_centres_finite (hKernelIdeal := hKernelIdeal) (hReferenceIdeal := hReferenceIdeal) (hPre_centres_finite := hPre_centres_finite)
-- ==== Pre_centres_finite.lean ====
abbrev S8x64x256x256 : Shape := ⟨4, ![8, 64, 256, 256]⟩
abbrev S8x1x256x256 : Shape := ⟨4, ![8, 1, 256, 256]⟩
abbrev S8x1x128x128 : Shape := ⟨4, ![8, 1, 128, 128]⟩
abbrev S_ : Shape := ⟨0, ![]⟩

class Facts : Prop where
  slicesBy_S8x1x256x256_S8x1x128x128_0s1_0s1_0s2_0s2 : S8x1x256x256.SlicesBy (![0, 0, 0, 0] : Fin 4 → Nat) ![1, 1, 2, 2] S8x1x128x128
  bcast_S_S8x1x128x128 : S_.BroadcastsInDim S8x1x128x128 (![] : Fin 0 → Fin S8x1x128x128.rank)

variable [Facts]

def fn {F : FTy → Type} [FloatOps F] (main_arg0 : FVec F S8x64x256x256 .f32) (main_arg1 : FVec F S8x1x256x256 .f32) : IVec S8x1x128x128 1 :=
  let main_v0 : FVec F S8x1x128x128 .f32 := (Host.slice S8x1x128x128 ![0, 0, 0, 0] ![1, 1, 2, 2] · slicesBy_S8x1x256x256_S8x1x128x128_0s1_0s1_0s2_0s2) main_arg1
  let main_v1 : FVec F S8x1x128x128 .f32 := Host.absf main_v0
  let main_cst : FVec F S_ .f32 := constant S_ .f32 0x7F800000#32
  let main_v2 : FVec F S8x1x128x128 .f32 := broadcastInDim S8x1x128x128 ![] bcast_S_S8x1x128x128 main_cst
  let main_v3 : IVec S8x1x128x128 1 := cmpf .olt main_v1 main_v2
  main_v3
-- ==== Kernel.lean ====
abbrev S8x64x256x256 : Shape := ⟨4, ![8, 64, 256, 256]⟩
abbrev S8x1x256x256 : Shape := ⟨4, ![8, 1, 256, 256]⟩
abbrev S8x64x128x128 : Shape := ⟨4, ![8, 64, 128, 128]⟩
abbrev S1x64x256x128 : Shape := ⟨4, ![1, 64, 256, 128]⟩
abbrev S1x1x256x128 : Shape := ⟨4, ![1, 1, 256, 128]⟩
abbrev S1x64x128x128 : Shape := ⟨4, ![1, 64, 128, 128]⟩
abbrev S9x128x128 : Shape := ⟨3, ![9, 128, 128]⟩
abbrev S4x64x136x128 : Shape := ⟨4, ![4, 64, 136, 128]⟩
abbrev S256x128 : Shape := ⟨2, ![256, 128]⟩
abbrev S32x128 : Shape := ⟨2, ![32, 128]⟩
abbrev S32x128x1 : Shape := ⟨3, ![32, 128, 1]⟩
abbrev S32x64 : Shape := ⟨2, ![32, 64]⟩
abbrev S1x128 : Shape := ⟨2, ![1, 128]⟩
abbrev S31x128 : Shape := ⟨2, ![31, 128]⟩
abbrev S1x32x128 : Shape := ⟨3, ![1, 32, 128]⟩
abbrev S32x1 : Shape := ⟨2, ![32, 1]⟩
abbrev S32x127 : Shape := ⟨2, ![32, 127]⟩
abbrev S1x16x128x128 : Shape := ⟨4, ![1, 16, 128, 128]⟩
abbrev S16x128x128 : Shape := ⟨3, ![16, 128, 128]⟩
abbrev S16x128x128x1 : Shape := ⟨4, ![16, 128, 128, 1]⟩
abbrev S16x128x64 : Shape := ⟨3, ![16, 128, 64]⟩
abbrev S1x16x128x64 : Shape := ⟨4, ![1, 16, 128, 64]⟩
abbrev S16x1x128 : Shape := ⟨3, ![16, 1, 128]⟩
abbrev S1x16x1x128 : Shape := ⟨4, ![1, 16, 1, 128]⟩
abbrev S1x1x32x128 : Shape := ⟨4, ![1, 1, 32, 128]⟩

abbrev nBuf : Space → Nat
  | .hbm => 3
  | .vmem => 12
  | .smem => 0
  | _ => 0

abbrev bufTy : (tb : Table) → Fin (tcTables nBuf tb) → BufTy
  | .hbm, ⟨0, _⟩ => ⟨S8x64x256x256, .f32⟩
  | .hbm, ⟨1, _⟩ => ⟨S8x1x256x256, .f32⟩
  | .hbm, ⟨2, _⟩ => ⟨S8x64x128x128, .f32⟩
  | .local _ .vmem, ⟨0, _⟩ => ⟨S1x64x256x128, .f32⟩
  | .local _ .vmem, ⟨1, _⟩ => ⟨S1x64x256x128, .f32⟩
  | .local _ .vmem, ⟨2, _⟩ => ⟨S1x64x256x128, .f32⟩
  | .local _ .vmem, ⟨3, _⟩ => ⟨S1x64x256x128, .f32⟩
  | .local _ .vmem, ⟨4, _⟩ => ⟨S1x1x256x128, .f32⟩
  | .local _ .vmem, ⟨5, _⟩ => ⟨S1x1x256x128, .f32⟩
  | .local _ .vmem, ⟨6, _⟩ => ⟨S1x1x256x128, .f32⟩
  | .local _ .vmem, ⟨7, _⟩ => ⟨S1x1x256x128, .f32⟩
  | .local _ .vmem, ⟨8, _⟩ => ⟨S1x64x128x128, .f32⟩
  | .local _ .vmem, ⟨9, _⟩ => ⟨S1x64x128x128, .f32⟩
  | .local _ .vmem, ⟨10, _⟩ => ⟨S9x128x128, .f32⟩
  | .local _ .vmem, ⟨11, _⟩ => ⟨S4x64x136x128, .f32⟩
  | _, _ => ⟨S8x64x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, arg1.toNat, c0_i32.toNat, c1_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c1_i32 : BitVec 32 := 1#32
  let c0_i32_1 : BitVec 32 := 0#32
  ![arg0.toNat, c0_i32.toNat, c0_i32_0.toNat, c1_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x64x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x64x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S8x64x256x256 : Shape := ⟨4, ![8, 64, 256, 256]⟩
abbrev S8x1x256x256 : Shape := ⟨4, ![8, 1, 256, 256]⟩
abbrev S_ : Shape := ⟨0, ![]⟩
abbrev S8x64x258x258 : Shape := ⟨4, ![8, 64, 258, 258]⟩
abbrev S8x64x128x128 : Shape := ⟨4, ![8, 64, 128, 128]⟩
abbrev S8x64x1x128x128 : Shape := ⟨5, ![8, 64, 1, 128, 128]⟩
abbrev S8x64x9x128x128 : Shape := ⟨5, ![8, 64, 9, 128, 128]⟩
abbrev S8x1x258x258 : Shape := ⟨4, ![8, 1, 258, 258]⟩
abbrev S8x1x128x128 : Shape := ⟨4, ![8, 1, 128, 128]⟩
abbrev S8x1x1x128x128 : Shape := ⟨5, ![8, 1, 1, 128, 128]⟩
abbrev S8x1x9x128x128 : Shape := ⟨5, ![8, 1, 9, 128, 128]⟩
abbrev S8x9x128x128 : Shape := ⟨4, ![8, 9, 128, 128]⟩
abbrev S8x128x128 : Shape := ⟨3, ![8, 128, 128]⟩

abbrev nBuf : Space → Nat
  | .hbm => 91
  | .vmem => 0
  | .smem => 0
  | _ => 0

abbrev bufTy : (tb : Table) → Fin (tcTables nBuf tb) → BufTy
  | .hbm, ⟨0, _⟩ => ⟨S8x64x256x256, .f32⟩
  | .hbm, ⟨1, _⟩ => ⟨S8x1x256x256, .f32⟩
  | .hbm, ⟨2, _⟩ => ⟨S_, .i32⟩
  | .hbm, ⟨3, _⟩ => ⟨S_, .f32⟩
  | .hbm, ⟨4, _⟩ => ⟨S8x64x258x258, .f32⟩
  | .hbm, ⟨5, _⟩ => ⟨S8x64x128x128, .f32⟩
  | .hbm, ⟨6, _⟩ => ⟨S8x64x128x128, .f32⟩
  | .hbm, ⟨7, _⟩ => ⟨S8x64x128x128, .f32⟩
  | .hbm, ⟨8, _⟩ => ⟨S8x64x128x128, .f32⟩
  | .hbm, ⟨9, _⟩ => ⟨S8x64x128x128, .f32⟩
  | .hbm, ⟨10, _⟩ => ⟨S8x64x128x128, .f32⟩
  | .hbm, ⟨11, _⟩ => ⟨S8x64x128x128, .f32⟩
  | .hbm, ⟨12, _⟩ => ⟨S8x64x128x128, .f32⟩
  | .hbm, ⟨13, _⟩ => ⟨S8x64x128x128, .f32⟩
  | .hbm, ⟨14, _⟩ => ⟨S8x64x1x128x128, .f32⟩
  | .hbm, ⟨15, _⟩ => ⟨S8x64x1x128x128, .f32⟩
  | .hbm, ⟨16, _⟩ => ⟨S8x64x1x128x128, .f32⟩
  | .hbm, ⟨17, _⟩ => ⟨S8x64x1x128x128, .f32⟩
  | .hbm, ⟨18, _⟩ => ⟨S8x64x1x128x128, .f32⟩
  | .hbm, ⟨19, _⟩ => ⟨S8x64x1x128x128, .f32⟩
  | .hbm, ⟨20, _⟩ => ⟨S8x64x1x128x128, .f32⟩
  | .hbm, ⟨21, _⟩ => ⟨S8x64x1x128x128, .f32⟩
  | .hbm, ⟨22, _⟩ => ⟨S8x64x1x128x128, .f32⟩
  | .hbm, ⟨23, _⟩ => ⟨S8x64x9x128x128, .f32⟩
  | .hbm, ⟨24, _⟩ => ⟨S_, .i32⟩
  | .hbm, ⟨25, _⟩ => ⟨S_, .f32⟩
  | .hbm, ⟨26, _⟩ => ⟨S8x1x258x258, .f32⟩
  | .hbm, ⟨27, _⟩ => ⟨S8x1x128x128, .f32⟩
  | .hbm, ⟨28, _⟩ => ⟨S8x1x128x128, .f32⟩
  | .hbm, ⟨29, _⟩ => ⟨S8x1x128x128, .f32⟩
  | .hbm, ⟨30, _⟩ => ⟨S8x1x128x128, .f32⟩
  | .hbm, ⟨31, _⟩ => ⟨S8x1x128x128, .f32⟩
  | .hbm, ⟨32, _⟩ => ⟨S8x1x128x128, .f32⟩
  | .hbm, ⟨33, _⟩ => ⟨S8x1x128x128, .f32⟩
  | .hbm, ⟨34, _⟩ => ⟨S8x1x128x128, .f32⟩
  | .hbm, ⟨35, _⟩ => ⟨S8x1x128x128, .f32⟩
  | .hbm, ⟨36, _⟩ => ⟨S8x1x1x128x128, .f32⟩
  | .hbm, ⟨37, _⟩ => ⟨S8x1x1x128x128, .f32⟩
  | .hbm, ⟨38, _⟩ => ⟨S8x1x1x128x128, .f32⟩
  | .hbm, ⟨39, _⟩ => ⟨S8x1x1x128x128, .f32⟩
  | .hbm, ⟨40, _⟩ => ⟨S8x1x1x128x128, .f32⟩
  | .hbm, ⟨41, _⟩ => ⟨S8x1x1x128x128, .f32⟩
  | .hbm, ⟨42, _⟩ => ⟨S8x1x1x128x128, .f32⟩
  | .hbm, ⟨43, _⟩ => ⟨S8x1x1x128x128, .f32⟩
  | .hbm, ⟨44, _⟩ => ⟨S8x1x1x128x128, .f32⟩
  | .hbm, ⟨45, _⟩ => ⟨S8x1x9x128x128, .f32⟩
  | .hbm, ⟨46, _⟩ => ⟨S8x9x128x128, .f32⟩
  | .hbm, ⟨47, _⟩ => ⟨S_, .f32⟩
  | .hbm, ⟨48, _⟩ => ⟨S8x1x256x256, .f32⟩
  | .hbm, ⟨49, _⟩ => ⟨S_, .i32⟩
  | .hbm, ⟨50, _⟩ => ⟨S_, .f32⟩
  | .hbm, ⟨51, _⟩ => ⟨S8x1x258x258, .f32⟩
  | .hbm, ⟨52, _⟩ => ⟨S8x1x128x128, .f32⟩
  | .hbm, ⟨53, _⟩ => ⟨S8x1x128x128, .f32⟩
  | .hbm, ⟨54, _⟩ => ⟨S8x1x128x128, .f32⟩
  | .hbm, ⟨55, _⟩ => ⟨S8x1x128x128, .f32⟩
  | .hbm, ⟨56, _⟩ => ⟨S8x1x128x128, .f32⟩
  | .hbm, ⟨57, _⟩ => ⟨S8x1x128x128, .f32⟩
  | .hbm, ⟨58, _⟩ => ⟨S8x1x128x128, .f32⟩
  | .hbm, ⟨59, _⟩ => ⟨S8x1x128x128, .f32⟩
  | .hbm, ⟨60, _⟩ => ⟨S8x1x128x128, .f32⟩
  | .hbm, ⟨61, _⟩ => ⟨S8x1x1x128x128, .f32⟩
  | .hbm, ⟨62, _⟩ => ⟨S8x1x1x128x128, .f32⟩
  | .hbm, ⟨63, _⟩ => ⟨S8x1x1x128x128, .f32⟩
  | .hbm, ⟨64, _⟩ => ⟨S8x1x1x128x128, .f32⟩
  | .hbm, ⟨65, _⟩ => ⟨S8x1x1x128x128, .f32⟩
  | .hbm, ⟨66, _⟩ => ⟨S8x1x1x128x128, .f32⟩
  | .hbm, ⟨67, _⟩ => ⟨S8x1x1x128x128, .f32⟩
  | .hbm, ⟨68, _⟩ => ⟨S8x1x1x128x128, .f32⟩
  | .hbm, ⟨69, _⟩ => ⟨S8x1x1x128x128, .f32⟩
  | .hbm, ⟨70, _⟩ => ⟨S8x1x9x128x128, .f32⟩
  | .hbm, ⟨71, _⟩ => ⟨S8x9x128x128, .f32⟩
  | .hbm, ⟨72, _⟩ => ⟨S8x1x128x128, .f32⟩
  | .hbm, ⟨73, _⟩ => ⟨S8x128x128, .f32⟩
  | .hbm, ⟨74, _⟩ => ⟨S8x1x128x128, .f32⟩
  | .hbm, ⟨75, _⟩ => ⟨S8x9x128x128, .f32⟩
  | .hbm, ⟨76, _⟩ => ⟨S8x9x128x128, .f32⟩
  | .hbm, ⟨77, _⟩ => ⟨S8x9x128x128, .f32⟩
  | .hbm, ⟨78, _⟩ => ⟨S8x9x128x128, .f32⟩
  | .hbm, ⟨79, _⟩ => ⟨S8x9x128x128, .f32⟩
  | .hbm, ⟨80, _⟩ => ⟨S8x9x128x128, .f32⟩
  | .hbm, ⟨81, _⟩ => ⟨S8x1x9x128x128, .f32⟩
  | .hbm, ⟨82, _⟩ => ⟨S8x64x9x128x128, .f32⟩
  | .hbm, ⟨83, _⟩ => ⟨S8x64x9x128x128, .f32⟩
  | .hbm, ⟨84, _⟩ => ⟨S_, .f32⟩
  | .hbm, ⟨85, _⟩ => ⟨S8x64x128x128, .f32⟩
  | .hbm, ⟨86, _⟩ => ⟨S_, .f32⟩
  | .hbm, ⟨87, _⟩ => ⟨S8x128x128, .f32⟩
  | .hbm, ⟨88, _⟩ => ⟨S8x1x128x128, .f32⟩
  | .hbm, ⟨89, _⟩ => ⟨S8x64x128x128, .f32⟩
  | .hbm, ⟨90, _⟩ => ⟨S8x64x128x128, .f32⟩
  | _, _ => ⟨S8x64x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_c_0 : Ref sig .tc := ⟨.hbm, 24, rfl⟩
abbrev main_call1_v0 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_cst : Ref sig .tc := ⟨.hbm, 47, rfl⟩
abbrev main_v41 : Ref sig .tc := ⟨.hbm, 48, rfl⟩
abbrev main_c_1 : Ref sig .tc := ⟨.hbm, 49, rfl⟩
abbrev main_call2_v0 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_cst_2 : Ref sig .tc := ⟨.hbm, 84, rfl⟩
abbrev main_v75 : Ref sig .tc := ⟨.hbm, 85, rfl⟩
abbrev main_cst_3 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩

abbrev nD : Nat := 1
abbrev τ : Topo := Topo.v7x

variable {F : FTy → Type} [FloatOps F]
-- ==== Proof.Frames.lean ====
/- The frames of the three programs: each runs, leaves its arguments unchanged and ends with every
   semaphore counter at zero. -/
module

public import proofs.«01_k».proof.Defs
public import proofs.«01_k».proof.Proof.Gen.Kernel.Frame
public import proofs.«01_k».proof.Proof.Gen.KernelIdeal.Frame
public import proofs.«01_k».proof.Proof.Gen.ReferenceIdeal.Run

@[expose] public section

noncomputable section

namespace Cert.Frames

open Idealize.ShloMosaic Idealize.SL.Sem

/-- The kernel runs at the bit-exact instance. -/
theorem kernel : Cert.quiescent_Kernel (hKernel := Cert.Kernel.Gen.facts) :=
  fun m ρ _ => Cert.Kernel.Gen.frame m ρ

/-- The kernel runs at the ideal instance. -/
theorem kernelIdeal : Cert.quiescent_KernelIdeal (hKernelIdeal := Cert.KernelIdeal.Gen.facts) :=
  fun m ρ _ => Cert.KernelIdeal.Gen.frame m ρ

/-- The reference is a straight line of host operations that declares no semaphore. -/
theorem referenceIdeal : Cert.quiescent_ReferenceIdeal (hReferenceIdeal := Cert.ReferenceIdeal.Gen.facts) :=
  fun m ρ _ =>
    (θ_run Cert.ReferenceIdeal.defs _ _).mono
      (fun r h => ⟨fun c => (h c).2, sem_eq_zero_of_no_sems (by decide) r.2⟩)
      (Cert.ReferenceIdeal.Value.run (F := Ideal) m ρ)

end Cert.Frames

end
-- ==== Proof.Pieces.lean ====
/- The kernel body's arithmetic, named: what one grid point stores into its two scratch buffers and into its
   output block, each written once for all the stores of that kind. Nothing is proved of the values here. -/
module

public import proofs.«01_k».proof.KernelIdeal
public import proofs.«01_k».proof.Proof.Gen.KernelIdeal

@[expose] public section

set_option maxRecDepth 16384

noncomputable section

namespace Cert.Pool

open Idealize.ShloMosaic Cert.KernelIdeal Cert.KernelIdeal.Gen

variable {F : FTy → Type} [FloatOps F]

/-! ## The lane permutation -/

section Perm

variable {s : Shape}

/-- `v % 64`, rounded towards minus infinity. -/
def mod64 (v : IVec s 32) (hb : s.Broadcasts s) : IVec s 32 :=
  select
    (andi
      (xori (cmpi .slt (remsi v (broadcast s 64#32)) (broadcast s 0#32)) (broadcastTo s (broadcast s 0#1) hb))
      (cmpi .ne (remsi v (broadcast s 64#32)) (broadcast s 0#32)))
    (addi (remsi v (broadcast s 64#32)) (broadcast s 64#32))
    (remsi v (broadcast s 64#32))

/-- `v // 64`, rounded towards minus infinity. -/
def div64 (v : IVec s 32) : IVec s 32 :=
  select
    (andi
      (cmpi .ne
        (subi (extui 32 (cmpi .sgt v (broadcast s 0#32)) natLt_1_32) (extui 32 (cmpi .slt v (broadcast s 0#32)) natLt_1_32))
        (broadcast s 1#32))
      (cmpi .ne (remsi v (broadcast s 64#32)) (broadcast s 0#32)))
    (subi (divsi v (broadcast s 64#32)) (broadcast s 1#32))
    (divsi v (broadcast s 64#32))

/-- The lane a lane is taken from: the even lanes first, then the odd ones. -/
def evenOdd (v : IVec s 32) (hb : s.Broadcasts s) : IVec s 32 :=
  addi (muli (mod64 v hb) (broadcast s 2#32)) (div64 v)

/-- The same, a negative lane counted from the end. -/
def wrapped (w : IVec s 32) : IVec s 32 :=
  select (cmpi .slt w (broadcast s 0#32)) (addi w (broadcast s 128#32)) w

end Perm

/-- The permutation, for a tile of the depth. -/
def perm32 : IVec S32x128 32 :=
  shapeCast S32x128
    (shapeCast S32x128x1 (wrapped (evenOdd (iota .tc S32x128 32 [1] iota_S32x128_d1_w32) broadcasts_S32x128_S32x128))
      shapeCasts_S32x128_S32x128x1)
    shapeCasts_S32x128x1_S32x128

/-- The permutation, for sixteen channels of the input. -/
def perm16 : IVec S16x128x128 32 :=
  shapeCast S16x128x128
    (shapeCast S16x128x128x1
      (wrapped (evenOdd (iota .tc S16x128x128 32 [2] iota_S16x128x128_d2_w32) broadcasts_S16x128x128_S16x128x128))
      shapeCasts_S16x128x128_S16x128x128x1)
    shapeCasts_S16x128x128x1_S16x128x128

/-! ## The input's phases -/

/-- The rows of one parity of sixteen channels of one half of the input block. -/
theorem rowsInb : ∀ (g : Fin 4) (r : Fin 2) (a : Fin 4), S1x16x128x128.size a = 0 ∨
    (![0, 16 * g.val, r.val, 0] : Fin 4 → Nat) a + (![1, 1, 2, 1] : Fin 4 → Nat) a * (S1x16x128x128.size a - 1)
      < S1x64x256x128.size a := by decide

/-- The load of them. -/
def rowsX (x : S1x64x256x128.Idx → Elt F .f32) (g : Fin 4) (r : Fin 2) : Vec F S1x16x128x128 .f32 :=
  fun y => x ((⟨![0, 16 * g.val, r.val, 0], S1x16x128x128.size, ![1, 1, 2, 1], rowsInb g r⟩ : LoadRect S1x64x256x128).idx y)

/-- Rounded, and their lanes sorted by parity. -/
def sortedX (x : S1x64x256x128.Idx → Elt F .f32) (g : Fin 4) (r : Fin 2) : FVec F S16x128x128 .f32 :=
  dynamicGather 2
    (extf .f32 (truncf .bf16 (shapeCast S16x128x128 (rowsX x g r) shapeCasts_S1x16x128x128_S16x128x128) bitsLt_bf16_f32)
      bitsLt_bf16_f32)
    perm16

theorem lanesSlice : ∀ p : Fin 2, S16x128x128.Slices ![0, 0, 64 * p.val] S16x128x64 := by decide

/-- The lanes of one parity. -/
def phaseX (x : S1x64x256x128.Idx → Elt F .f32) (g : Fin 4) (r p : Fin 2) : Vec F S1x16x128x64 .f32 :=
  shapeCast S1x16x128x64 (extractStridedSlice S16x128x64 ![0, 0, 64 * p.val] (sortedX x g r) (lanesSlice p))
    shapeCasts_S16x128x64_S1x16x128x64

theorem phaseInb : ∀ (g : Fin 4) (r p h : Fin 2) (a : Fin 4),
    (![2 * r.val + p.val, 16 * g.val, 1, 64 * h.val] : Fin 4 → Nat) a + S1x16x128x64.size a ≤ S4x64x136x128.size a := by decide

theorem zeroInb : ∀ (g : Fin 4) (p : Fin 2) (a : Fin 4),
    (![2 + p.val, 16 * g.val, 0, 0] : Fin 4 → Nat) a + S1x16x1x128.size a ≤ S4x64x136x128.size a := by decide

/-- The store of one phase of one half. -/
def phasePiece (x : S1x64x256x128.Idx → Elt F .f32) (g : Fin 4) (r p h : Fin 2) : View.Piece (Elt F) S4x64x136x128 .f32 :=
  ⟨Rect.unit ![2 * r.val + p.val, 16 * g.val, 1, 64 * h.val] S1x16x128x64.size (phaseInb g r p h), phaseX x g r p⟩

/-- The store of the zero row above a phase of the odd rows. -/
def zeroPiece (g : Fin 4) (p : Fin 2) : View.Piece (Elt F) S4x64x136x128 .f32 :=
  ⟨Rect.unit ![2 + p.val, 16 * g.val, 0, 0] S1x16x1x128.size (zeroInb g p),
    shapeCast S1x16x1x128 (broadcast S16x1x128 (FloatOps.ofBits .f32 0#32 : F .f32)) shapeCasts_S16x1x128_S1x16x1x128⟩

/-- Every store into the input's scratch, the last first. -/
def phasePieces (xl xr : S1x64x256x128.Idx → Elt F .f32) : List (View.Piece (Elt F) S4x64x136x128 .f32) :=
  [(3 : Fin 4), 2, 1, 0].flatMap fun g =>
    [zeroPiece g 1, zeroPiece g 0,
      phasePiece xr g 1 1 1, phasePiece xl g 1 1 0, phasePiece xr g 1 0 1, phasePiece xl g 1 0 0,
      phasePiece xr g 0 1 1, phasePiece xl g 0 1 0, phasePiece xr g 0 0 1, phasePiece xl g 0 0 0]

/-! ## The weights -/

theorem depthInb : ∀ (t : Fin 255) (a : Fin 2), t.val + 62 < 256 → (S32x128.size a = 0 ∨
    (![t.val, 0] : Fin 2 → Nat) a + (![2, 1] : Fin 2 → Nat) a * (S32x128.size a - 1) < S256x128.size a) := by
  intro t a h
  right
  match a with
  | ⟨0, _⟩ => show t.val + 2 * (32 - 1) < 256; omega
  | ⟨1, _⟩ => show 0 + 1 * (128 - 1) < 128; omega

/-- Every other row of one half of the depth block, from row `t` on, rounded and the lanes sorted by parity. -/
def sortedD (d : S1x1x256x128.Idx → Elt F .f32) (t : Fin 255) (ht : t.val + 62 < 256) : FVec F S32x128 .f32 :=
  dynamicGather 1
    (extf .f32
      (truncf .bf16
        (fun y => d ((Rect.unit (s := S1x1x256x128) ![0, 0, 0, 0] S1x1x256x128.size inb_S1x1x256x128_S1x1x256x128_0_0_0_0).emb
          (Shape.reshapeEquiv squeezes_S1x1x256x128_S256x128.numel_eq
            ((⟨![t.val, 0], S32x128.size, ![2, 1], fun a => depthInb t a ht⟩ : LoadRect S256x128).idx y))) : Vec F S32x128 .f32)
        bitsLt_bf16_f32)
      bitsLt_bf16_f32)
    perm32

/-- The even lanes of both halves, -/
def evenD (dl dr : S1x1x256x128.Idx → Elt F .f32) (t : Fin 255) (ht : t.val + 62 < 256) : FVec F S32x128 .f32 :=
  concatenate S32x128 1
    [⟨S32x64, extractStridedSlice S32x64 ![0, 0] (sortedD dl t ht) slices_S32x128_o0_0_S32x64⟩,
     ⟨S32x64, extractStridedSlice S32x64 ![0, 0] (sortedD dr t ht) slices_S32x128_o0_0_S32x64⟩]
    concatenates_S32x64_S32x64_S32x128_d1

/-- and the odd ones. -/
def oddD (dl dr : S1x1x256x128.Idx → Elt F .f32) (t : Fin 255) (ht : t.val + 62 < 256) : FVec F S32x128 .f32 :=
  concatenate S32x128 1
    [⟨S32x64, extractStridedSlice S32x64 ![0, 64] (sortedD dl t ht) slices_S32x128_o0_64_S32x64⟩,
     ⟨S32x64, extractStridedSlice S32x64 ![0, 64] (sortedD dr t ht) slices_S32x128_o0_64_S32x64⟩]
    concatenates_S32x64_S32x64_S32x128_d1

/-- One lane to the right, a zero coming in. -/
def shiftR (v : FVec F S32x128 .f32) : FVec F S32x128 .f32 :=
  concatenate S32x128 1
    [⟨S32x1, broadcast S32x1 (FloatOps.ofBits .f32 0#32 : F .f32)⟩,
     ⟨S32x127, extractStridedSlice S32x127 ![0, 0] v slices_S32x128_o0_0_S32x127⟩]
    concatenates_S32x1_S32x127_S32x128_d1

/-- One lane to the left, a zero coming in. -/
def shiftL (v : FVec F S32x128 .f32) : FVec F S32x128 .f32 :=
  concatenate S32x128 1
    [⟨S32x127, extractStridedSlice S32x127 ![0, 1] v slices_S32x128_o0_1_S32x127⟩,
     ⟨S32x1, broadcast S32x1 (FloatOps.ofBits .f32 0#32 : F .f32)⟩]
    concatenates_S32x127_S32x1_S32x128_d1

/-- One row down, a zero row coming in. -/
def shiftDown (v : FVec F S32x128 .f32) : FVec F S32x128 .f32 :=
  concatenate S32x128 0
    [⟨S1x128, broadcast S1x128 (FloatOps.ofBits .f32 0#32 : F .f32)⟩,
     ⟨S31x128, extractStridedSlice S31x128 ![0, 0] v slices_S32x128_o0_0_S31x128⟩]
    concatenates_S1x128_S31x128_S32x128_d0

/-- Where a tile is not on the image's first column, -/
def colOk : IVec S32x128 1 := cmpi .sgt (iota .tc S32x128 32 [1] iota_S32x128_d1_w32) (broadcast S32x128 0#32)
/-- and not on its first row. -/
def rowOk : IVec S32x128 1 := cmpi .sgt (iota .tc S32x128 32 [0] iota_S32x128_d0_w32) (broadcast S32x128 0#32)

/-- The tile of one number. -/
def splat (w : BitVec 32) : FVec F S32x128 .f32 := broadcast S32x128 (FloatOps.ofBits .f32 w : F .f32)

/-- Three where the mask holds, else two. -/
def threeTwo (k : IVec S32x128 1) : FVec F S32x128 .f32 := select k (splat 0x40400000#32) (splat 0x40000000#32)

/-- One over the number of pixels in the window: the first tile, -/
def invTop : FVec F S32x128 .f32 := divf (splat 0x3F800000#32) (mulf (threeTwo rowOk) (threeTwo colOk))
/-- and the tiles below it. -/
def invRest : FVec F S32x128 .f32 := divf (splat 0x3F800000#32) (mulf (splat 0x40400000#32) (threeTwo colOk))

/-- The weight of the depths `v` in windows centred at the depths `d0`. -/
def weightOf (v d0 inv : FVec F S32x128 .f32) : FVec F S32x128 .f32 :=
  mulf (exp (subf (splat 0#32) (absf (subf v d0)))) inv

/-- A weight where the mask holds, else zero. -/
def masked (k : IVec S32x128 1) (w : FVec F S32x128 .f32) : FVec F S32x128 .f32 := select k w (splat 0#32)

theorem weightInb : ∀ (k : Fin 9) (q : Fin 4) (a : Fin 3),
    (![k.val, 32 * q.val, 0] : Fin 3 → Nat) a + S1x32x128.size a ≤ S9x128x128.size a := by decide

/-- The store of the weights number `k` of tile `q`. -/
def weightPiece (k : Fin 9) (q : Fin 4) (w : FVec F S32x128 .f32) : View.Piece (Elt F) S9x128x128 .f32 :=
  ⟨Rect.unit ![k.val, 32 * q.val, 0] S1x32x128.size (weightInb k q), shapeCast S1x32x128 w shapeCasts_S32x128_S1x32x128⟩

/-- The nine weights of the first tile, -/
def topWeights (d0 deo doe doo : FVec F S32x128 .f32) : Fin 9 → FVec F S32x128 .f32 := ![
  invTop,
  weightOf deo d0 invTop,
  shiftL (masked colOk (weightOf (shiftR deo) d0 invTop)),
  weightOf doe d0 invTop,
  masked rowOk (weightOf (shiftDown doe) d0 invTop),
  weightOf doo d0 invTop,
  shiftL (masked colOk (weightOf (shiftR doo) d0 invTop)),
  masked rowOk (weightOf (shiftDown doo) d0 invTop),
  shiftL (masked (andi rowOk colOk) (weightOf (shiftR (shiftDown doo)) d0 invTop))]

/-- and of a tile below it, `noe` and `noo` the odd rows above the windows' centres. -/
def restWeights (d0 deo doe doo noe noo : FVec F S32x128 .f32) : Fin 9 → FVec F S32x128 .f32 := ![
  invRest,
  weightOf deo d0 invRest,
  shiftL (masked colOk (weightOf (shiftR deo) d0 invRest)),
  weightOf doe d0 invRest,
  weightOf noe d0 invRest,
  weightOf doo d0 invRest,
  shiftL (masked colOk (weightOf (shiftR doo) d0 invRest)),
  weightOf noo d0 invRest,
  shiftL (masked colOk (weightOf (shiftR noo) d0 invRest))]

/-- The nine weights of a tile, of the two halves of the depth block. -/
def tileWeights (dl dr : S1x1x256x128.Idx → Elt F .f32) (q : Fin 4) : Fin 9 → FVec F S32x128 .f32 :=
  match q with
  | ⟨0, _⟩ => topWeights (evenD dl dr 0 (by decide)) (oddD dl dr 0 (by decide)) (evenD dl dr 1 (by decide)) (oddD dl dr 1 (by decide))
  | ⟨q + 1, hq⟩ =>
    restWeights (evenD dl dr ⟨64 * (q + 1), by omega⟩ (by show 64 * (q + 1) + 62 < 256; omega))
      (oddD dl dr ⟨64 * (q + 1), by omega⟩ (by show 64 * (q + 1) + 62 < 256; omega))
      (evenD dl dr ⟨64 * (q + 1) + 1, by omega⟩ (by show 64 * (q + 1) + 1 + 62 < 256; omega))
      (oddD dl dr ⟨64 * (q + 1) + 1, by omega⟩ (by show 64 * (q + 1) + 1 + 62 < 256; omega))
      (evenD dl dr ⟨64 * (q + 1) - 1, by omega⟩ (by show 64 * (q + 1) - 1 + 62 < 256; omega))
      (oddD dl dr ⟨64 * (q + 1) - 1, by omega⟩ (by show 64 * (q + 1) - 1 + 62 < 256; omega))

/-- Every store into the weights' scratch, the last first. -/
def weightPieces (dl dr : S1x1x256x128.Idx → Elt F .f32) : List (View.Piece (Elt F) S9x128x128 .f32) :=
  [(3 : Fin 4), 2, 1, 0].flatMap fun q =>
    [(8 : Fin 9), 6, 2, 7, 5, 4, 3, 1, 0].map fun k => weightPiece k q (tileWeights dl dr q k)

/-! ## The output -/

/-- A tile of channel `c` of phase `p` from the scratch row `r` on. -/
def loadPhase (arg8 : Memref sig .tc .vmem S4x64x136x128 .f32) (L : List (View.Piece (Elt F) S4x64x136x128 .f32))
    (p : Fin 4) (c : Fin 64) (r : Fin 98) (hr : r.val < 98) : FVec F S32x128 .f32 :=
  shapeCast S32x128
    (arg8.view.readCov L
      (Rect.unit (s := S4x64x136x128) ![p.val, c.val, r.val, 0] S1x1x32x128.size
        (fun a => match a with
          | ⟨0, _⟩ => by show p.val + 1 ≤ 4; omega
          | ⟨1, _⟩ => by show c.val + 1 ≤ 64; omega
          | ⟨2, _⟩ => by show r.val + 32 ≤ 136; omega
          | ⟨3, _⟩ => by show 0 + 128 ≤ 128; omega)).toLoadRect : Vec F S1x1x32x128 .f32)
    shapeCasts_S1x1x32x128_S32x128

/-- The weights number `k` of tile `q`. -/
def loadWeight (arg7 : Memref sig .tc .vmem S9x128x128 .f32) (L : List (View.Piece (Elt F) S9x128x128 .f32))
    (k : Fin 9) (q : Fin 4) : FVec F S32x128 .f32 :=
  shapeCast S32x128
    (arg7.view.readCov L (Rect.unit (s := S9x128x128) ![k.val, 32 * q.val, 0] S1x32x128.size (weightInb k q)).toLoadRect :
      Vec F S1x32x128 .f32)
    shapeCasts_S1x32x128_S32x128

/-- The weighted sum of a window's nine pixels. -/
def windowSum (w : Fin 9 → FVec F S32x128 .f32) (ee eo oe oo noe noo : FVec F S32x128 .f32) : FVec F S32x128 .f32 :=
  addf
    (addf (addf (addf (addf (addf (mulf (w 0) ee) (mulf (w 1) eo)) (mulf (w 3) oe)) (mulf (w 4) noe)) (mulf (w 5) oo))
      (mulf (w 7) noo))
    (shiftR (addf (addf (mulf (w 2) eo) (mulf (w 6) oo)) (mulf (w 8) noo)))

theorem outInb : ∀ (c : Fin 64) (q : Fin 4) (a : Fin 4),
    (![0, c.val, 32 * q.val, 0] : Fin 4 → Nat) a + S1x1x32x128.size a ≤ S1x64x128x128.size a := by
  intro c q a
  match a with
  | ⟨0, _⟩ => show 0 + 1 ≤ 1; omega
  | ⟨1, _⟩ => show c.val + 1 ≤ 64; omega
  | ⟨2, _⟩ => show 32 * q.val + 32 ≤ 128; omega
  | ⟨3, _⟩ => show 0 + 128 ≤ 128; omega

/-- What is stored into tile `q` of channel `c`. -/
def outTile (arg7 : Memref sig .tc .vmem S9x128x128 .f32) (arg8 : Memref sig .tc .vmem S4x64x136x128 .f32)
    (W : List (View.Piece (Elt F) S9x128x128 .f32)) (X : List (View.Piece (Elt F) S4x64x136x128 .f32))
    (c : Fin 64) (q : Fin 4) : FVec F S32x128 .f32 :=
  windowSum (fun k => loadWeight arg7 W k q)
    (loadPhase arg8 X 0 c ⟨32 * q.val + 1, by omega⟩ (by show 32 * q.val + 1 < 98; omega))
    (loadPhase arg8 X 1 c ⟨32 * q.val + 1, by omega⟩ (by show 32 * q.val + 1 < 98; omega))
    (loadPhase arg8 X 2 c ⟨32 * q.val + 1, by omega⟩ (by show 32 * q.val + 1 < 98; omega))
    (loadPhase arg8 X 3 c ⟨32 * q.val + 1, by omega⟩ (by show 32 * q.val + 1 < 98; omega))
    (loadPhase arg8 X 2 c ⟨32 * q.val, by omega⟩ (by show 32 * q.val < 98; omega))
    (loadPhase arg8 X 3 c ⟨32 * q.val, by omega⟩ (by show 32 * q.val < 98; omega))

/-- The store of it. -/
def outPiece (arg7 : Memref sig .tc .vmem S9x128x128 .f32) (arg8 : Memref sig .tc .vmem S4x64x136x128 .f32)
    (W : List (View.Piece (Elt F) S9x128x128 .f32)) (X : List (View.Piece (Elt F) S4x64x136x128 .f32))
    (c : Fin 64) (q : Fin 4) : View.Piece (Elt F) S1x64x128x128 .f32 :=
  ⟨Rect.unit ![0, c.val, 32 * q.val, 0] S1x1x32x128.size (outInb c q),
    shapeCast S1x1x32x128 (outTile arg7 arg8 W X c q) shapeCasts_S32x128_S1x1x32x128⟩

/-- Every store into the output block, the last first. -/
def outPieces (arg7 : Memref sig .tc .vmem S9x128x128 .f32) (arg8 : Memref sig .tc .vmem S4x64x136x128 .f32)
    (W : List (View.Piece (Elt F) S9x128x128 .f32)) (X : List (View.Piece (Elt F) S4x64x136x128 .f32)) :
    List (View.Piece (Elt F) S1x64x128x128 .f32) :=
  [(3 : Fin 4), 2, 1, 0].flatMap fun q => (List.finRange 64).reverse.map fun c => outPiece arg7 arg8 W X c q

end Cert.Pool

end
-- ==== Proof.Run.lean ====
/- The stores a run of the body makes, in the words of `Pieces`. -/
module

public import proofs.«01_k».proof.Proof.Gen.KernelIdeal.Frame
public import proofs.«01_k».proof.Proof.Pieces

@[expose] public section

set_option maxRecDepth 16384

noncomputable section

namespace Cert.Pool

open Idealize.ShloMosaic Idealize.ShloMosaic.Tactic Cert.KernelIdeal Cert.KernelIdeal.Gen

variable {F : FTy → Type} [FloatOps F]

theorem phase_run (c : Dev nD) (arg2 : Memref sig .tc .vmem S1x64x256x128 .f32) (harg2 : arg2.IsWhole)
    (arg3 : Memref sig .tc .vmem S1x64x256x128 .f32) (harg3 : arg3.IsWhole) (x0 x1 : Vec F S1x64x256x128 .f32) :
    kernelRun0_A.sl.HS1_40 c arg2 harg2 arg3 harg3 x0 x1
      = phasePieces (arg2.view.read (Elt F) (harg2.unread x0)) (arg3.view.read (Elt F) (harg3.unread x1)) := by
  sl_kernel_rfl

theorem weight_run (c : Dev nD) (arg4 : Memref sig .tc .vmem S1x1x256x128 .f32) (harg4 : arg4.IsWhole)
    (arg5 : Memref sig .tc .vmem S1x1x256x128 .f32) (harg5 : arg5.IsWhole) (x2 x3 : Vec F S1x1x256x128 .f32) :
    kernelRun0_A.sl.HS0_36 c arg4 harg4 arg5 harg5 x2 x3
      = weightPieces (arg4.view.read (Elt F) (harg4.unread x2)) (arg5.view.read (Elt F) (harg5.unread x3)) := by
  sl_kernel_rfl

theorem out_run (c : Dev nD) (i : grid0.Coords) (arg2 : Memref sig .tc .vmem S1x64x256x128 .f32) (harg2 : arg2.IsWhole)
    (arg3 : Memref sig .tc .vmem S1x64x256x128 .f32) (harg3 : arg3.IsWhole)
    (arg4 : Memref sig .tc .vmem S1x1x256x128 .f32) (harg4 : arg4.IsWhole)
    (arg5 : Memref sig .tc .vmem S1x1x256x128 .f32) (harg5 : arg5.IsWhole)
    (arg6 : Memref sig .tc .vmem S1x64x128x128 .f32) (harg6 : arg6.IsWhole)
    (arg7 : Memref sig .tc .vmem S9x128x128 .f32) (harg7 : arg7.IsWhole)
    (arg8 : Memref sig .tc .vmem S4x64x136x128 .f32) (harg8 : arg8.IsWhole) (hc0 : cond0_0 i)
    (x0 x1 : Vec F S1x64x256x128 .f32) (x2 x3 : Vec F S1x1x256x128 .f32) :
    (kernelRun0_A c i arg2 harg2 arg3 harg3 arg4 harg4 arg5 harg5 arg6 harg6 arg7 harg7 arg8 harg8 hc0 x0 x1 x2 x3).1
      = outPieces arg7 arg8 (kernelRun0_A.sl.HS0_36 c arg4 harg4 arg5 harg5 x2 x3)
          (kernelRun0_A.sl.HS1_40 c arg2 harg2 arg3 harg3 x0 x1) := by
  sl_kernel_rfl

end Cert.Pool

end
-- ==== Proof.Math.lean ====
/- The mathematics of the claim, over extended reals and with no program in it: the average of a window as the
   reference takes it, the same as the kernel takes it, and that the two agree where the window's centre is at a
   finite depth. -/
module

public import Idealize.ShloMosaic.Lib.ValueIdx
public import Idealize.ShloMosaic.Lib.IdealHost
public import Idealize.ShloMosaic.Lib.Pointwise

@[expose] public section

noncomputable section

namespace Cert.Math

open Idealize.ShloMosaic

/-- How alike two depths are: one where they agree, less the further apart they are. -/
def alike (a b : EReal) : EReal := Ideal.exp (-(max (a - b) (-(a - b))))

/-- An image in a frame of zeros one pixel wide, row and column counted from the frame's corner. -/
def framed (X : ℕ → ℕ → EReal) (r c : ℕ) : EReal :=
  if (1 ≤ r ∧ r - 1 < 256) ∧ 1 ≤ c ∧ c - 1 < 256 then X (r - 1) (c - 1) else 0

/-- THE REFERENCE'S AVERAGE at output pixel `(i, l)`: the window's nine pixels weighted by the likeness of their depths to the
    centre's, over the number of them that lie in the image. -/
def refAt (X D : ℕ → ℕ → EReal) (i l : ℕ) : EReal :=
  Ideal.div
    (∑ k : Fin 9, framed X (2 * i + k.val / 3) (2 * l + k.val % 3) *
      (alike (framed D (2 * i + k.val / 3) (2 * l + k.val % 3)) (framed D (2 * i + 1) (2 * l + 1)) *
        framed (fun _ _ => 1) (2 * i + k.val / 3) (2 * l + k.val % 3)))
    (∑ k : Fin 9, framed (fun _ _ => 1) (2 * i + k.val / 3) (2 * l + k.val % 3))

/-- Three rows, or columns, of the window lie in the image, except at its first edge. -/
def threeTwoAt (n : ℕ) : EReal := if 0 < n then ((3 : ℝ) : EReal) else ((2 : ℝ) : EReal)

/-- One over the number of pixels of the window in the image. -/
def invAt (i l : ℕ) : EReal := Ideal.div 1 (threeTwoAt i * threeTwoAt l)

/-- The weight of the pixel `(r, c)` in the window of `(i, l)`. -/
def weightAt (D : ℕ → ℕ → EReal) (i l r c : ℕ) : EReal := alike (D r c) (D (2 * i) (2 * l)) * invAt i l

/-- The kernel's nine weights of a window; those of the left column are kept one lane to the left of the window. -/
def keptAt (D : ℕ → ℕ → EReal) (k : Fin 9) (i l : ℕ) : EReal :=
  match k with
  | 0 => invAt i l
  | 1 => weightAt D i l (2 * i) (2 * l + 1)
  | 2 => if l < 127 then weightAt D i (l + 1) (2 * i) (2 * l + 1) else 0
  | 3 => weightAt D i l (2 * i + 1) (2 * l)
  | 4 => if 0 < i then weightAt D i l (2 * i - 1) (2 * l) else 0
  | 5 => weightAt D i l (2 * i + 1) (2 * l + 1)
  | 6 => if l < 127 then weightAt D i (l + 1) (2 * i + 1) (2 * l + 1) else 0
  | 7 => if 0 < i then weightAt D i l (2 * i - 1) (2 * l + 1) else 0
  | 8 => if l < 127 then if 0 < i then weightAt D i (l + 1) (2 * i - 1) (2 * l + 1) else 0 else 0

/-- The odd row above a window's centre, zero above the image. -/
def aboveAt (X : ℕ → ℕ → EReal) (i c : ℕ) : EReal := if i = 0 then 0 else X (2 * i - 1) c

/-- THE KERNEL'S AVERAGE at output pixel `(i, l)`. -/
def kerAt (X D : ℕ → ℕ → EReal) (i l : ℕ) : EReal :=
  keptAt D 0 i l * X (2 * i) (2 * l) + keptAt D 1 i l * X (2 * i) (2 * l + 1) + keptAt D 3 i l * X (2 * i + 1) (2 * l)
    + keptAt D 4 i l * aboveAt X i (2 * l) + keptAt D 5 i l * X (2 * i + 1) (2 * l + 1)
    + keptAt D 7 i l * aboveAt X i (2 * l + 1)
    + (if l = 0 then 0 else
        keptAt D 2 i (l - 1) * X (2 * i) (2 * (l - 1) + 1) + keptAt D 6 i (l - 1) * X (2 * i + 1) (2 * (l - 1) + 1)
          + keptAt D 8 i (l - 1) * aboveAt X i (2 * (l - 1) + 1))

/-- A finite depth is wholly like itself. -/
theorem alike_self (a : EReal) (h : a ≠ ⊤) (h' : a ≠ ⊥) : alike a a = 1 := by
  lift a to ℝ using ⟨h, h'⟩
  unfold alike
  rw [← EReal.coe_sub, sub_self, EReal.coe_zero, neg_zero, max_self, neg_zero]
  show Ideal.exp ((0 : ℝ) : EReal) = 1
  show ((Real.exp 0 : ℝ) : EReal) = 1
  rw [Real.exp_zero, EReal.coe_one]

/-- Dividing a sum by a positive real divides its terms. -/
theorem add_mul_coe (x y : EReal) (q : ℝ) (hq : 0 ≤ q) : (x + y) * (q : EReal) = x * q + y * q :=
  EReal.right_distrib_of_nonneg_of_ne_top (EReal.coe_nonneg.mpr hq) (EReal.coe_ne_top q) x y

theorem framed_in (X : ℕ → ℕ → EReal) (r c : ℕ) (hr : 1 ≤ r) (hr' : r ≤ 256) (hc : 1 ≤ c) (hc' : c ≤ 256) :
    framed X r c = X (r - 1) (c - 1) := by
  unfold framed
  rw [if_pos ⟨⟨by omega, by omega⟩, by omega, by omega⟩]

theorem framed_out (X : ℕ → ℕ → EReal) (r c : ℕ) (h : r = 0 ∨ c = 0) : framed X r c = 0 := by
  unfold framed; rw [if_neg]; omega

theorem one_div_three_three : Ideal.div 1 (((3 : ℝ) : EReal) * ((3 : ℝ) : EReal)) = ((1 / 9 : ℝ) : EReal) := by
  rw [← EReal.coe_mul, Ideal.div_coe (by norm_num), one_mul]; norm_num
theorem one_div_three_two : Ideal.div 1 (((3 : ℝ) : EReal) * ((2 : ℝ) : EReal)) = ((1 / 6 : ℝ) : EReal) := by
  rw [← EReal.coe_mul, Ideal.div_coe (by norm_num), one_mul]; norm_num
theorem one_div_two_three : Ideal.div 1 (((2 : ℝ) : EReal) * ((3 : ℝ) : EReal)) = ((1 / 6 : ℝ) : EReal) := by
  rw [← EReal.coe_mul, Ideal.div_coe (by norm_num), one_mul]; norm_num
theorem one_div_two_two : Ideal.div 1 (((2 : ℝ) : EReal) * ((2 : ℝ) : EReal)) = ((1 / 4 : ℝ) : EReal) := by
  rw [← EReal.coe_mul, Ideal.div_coe (by norm_num), one_mul]; norm_num

theorem sum_nine (f : Fin 9 → EReal) : ∑ k, f k = f 0 + f 1 + f 2 + f 3 + f 4 + f 5 + f 6 + f 7 + f 8 := by
  simp only [Fin.sum_univ_succ, Fin.sum_univ_zero, add_zero, ← add_assoc]
  rfl

theorem shuffle (x e q : EReal) : x * (e * 1) * q = e * q * x := by
  rw [mul_one, mul_assoc, mul_comm]

theorem shuffle_one (x q : EReal) : x * 1 * q = q * x := by rw [mul_one, mul_comm]

theorem count_4 : (1 + 1 + 1 + 1 : EReal) = ((4 : ℝ) : EReal) := by
  simp only [← EReal.coe_one, ← EReal.coe_add]; norm_num

theorem count_6 : (1 + 1 + 1 + 1 + 1 + 1 : EReal) = ((6 : ℝ) : EReal) := by
  simp only [← EReal.coe_one, ← EReal.coe_add]; norm_num

theorem count_9 : (1 + 1 + 1 + 1 + 1 + 1 + 1 + 1 + 1 : EReal) = ((9 : ℝ) : EReal) := by
  simp only [← EReal.coe_one, ← EReal.coe_add]; norm_num

/-- The reference's two sums written out. -/
theorem refAt_nine (X D : ℕ → ℕ → EReal) (i l : ℕ) : refAt X D i l = Ideal.div
      (framed X (2 * i) (2 * l) * (alike (framed D (2 * i) (2 * l)) (framed D (2 * i + 1) (2 * l + 1)) * framed (fun _ _ => 1) (2 * i) (2 * l))
        + framed X (2 * i) (2 * l + 1) * (alike (framed D (2 * i) (2 * l + 1)) (framed D (2 * i + 1) (2 * l + 1)) * framed (fun _ _ => 1) (2 * i) (2 * l + 1))
        + framed X (2 * i) (2 * l + 2) * (alike (framed D (2 * i) (2 * l + 2)) (framed D (2 * i + 1) (2 * l + 1)) * framed (fun _ _ => 1) (2 * i) (2 * l + 2))
        + framed X (2 * i + 1) (2 * l) * (alike (framed D (2 * i + 1) (2 * l)) (framed D (2 * i + 1) (2 * l + 1)) * framed (fun _ _ => 1) (2 * i + 1) (2 * l))
        + framed X (2 * i + 1) (2 * l + 1) * (alike (framed D (2 * i + 1) (2 * l + 1)) (framed D (2 * i + 1) (2 * l + 1)) * framed (fun _ _ => 1) (2 * i + 1) (2 * l + 1))
        + framed X (2 * i + 1) (2 * l + 2) * (alike (framed D (2 * i + 1) (2 * l + 2)) (framed D (2 * i + 1) (2 * l + 1)) * framed (fun _ _ => 1) (2 * i + 1) (2 * l + 2))
        + framed X (2 * i + 2) (2 * l) * (alike (framed D (2 * i + 2) (2 * l)) (framed D (2 * i + 1) (2 * l + 1)) * framed (fun _ _ => 1) (2 * i + 2) (2 * l))
        + framed X (2 * i + 2) (2 * l + 1) * (alike (framed D (2 * i + 2) (2 * l + 1)) (framed D (2 * i + 1) (2 * l + 1)) * framed (fun _ _ => 1) (2 * i + 2) (2 * l + 1))
        + framed X (2 * i + 2) (2 * l + 2) * (alike (framed D (2 * i + 2) (2 * l + 2)) (framed D (2 * i + 1) (2 * l + 1)) * framed (fun _ _ => 1) (2 * i + 2) (2 * l + 2)))
      (framed (fun _ _ => 1) (2 * i) (2 * l) + framed (fun _ _ => 1) (2 * i) (2 * l + 1) + framed (fun _ _ => 1) (2 * i) (2 * l + 2) + framed (fun _ _ => 1) (2 * i + 1) (2 * l) + framed (fun _ _ => 1) (2 * i + 1) (2 * l + 1) + framed (fun _ _ => 1) (2 * i + 1) (2 * l + 2) + framed (fun _ _ => 1) (2 * i + 2) (2 * l) + framed (fun _ _ => 1) (2 * i + 2) (2 * l + 1) + framed (fun _ _ => 1) (2 * i + 2) (2 * l + 2)) := by
  unfold refAt; rw [sum_nine, sum_nine]; rfl

/-- The window of a pixel on neither first edge has nine members. -/
theorem agree_inner (X D : ℕ → ℕ → EReal) (i l : ℕ) (hi : i + 1 < 128) (hl : l + 1 < 128)
    (hs : alike (D (2 * (i + 1)) (2 * (l + 1))) (D (2 * (i + 1)) (2 * (l + 1))) = 1) :
    kerAt X D (i + 1) (l + 1) = refAt X D (i + 1) (l + 1) := by
  rw [refAt_nine]
  simp (disch := omega) only [framed_in, framed_out]
  simp only [mul_zero, zero_mul, zero_add, add_zero, count_9]
  rw [Ideal.div_coe (by norm_num)]
  simp only [add_mul_coe _ _ _ (show (0 : ℝ) ≤ 1 / 9 by norm_num)]
  simp only [kerAt, keptAt, weightAt, aboveAt, invAt, threeTwoAt, Nat.mul_add, Nat.add_assoc, Nat.reduceAdd,
    Nat.reduceMul, Nat.mul_zero, Nat.zero_add, Nat.add_sub_cancel, Nat.reduceSubDiff, Nat.reduceSub,
    Nat.add_one_sub_one] at hs ⊢
  simp (disch := omega) only [if_pos, if_neg, one_div_three_three, hs]
  simp only [one_mul, zero_mul, add_zero, ↓reduceIte, shuffle, shuffle_one]
  abel

/-- The window of a pixel in the first column has six members. -/
theorem agree_left (X D : ℕ → ℕ → EReal) (i : ℕ) (hi : i + 1 < 128)
    (hs : alike (D (2 * (i + 1)) (2 * 0)) (D (2 * (i + 1)) (2 * 0)) = 1) :
    kerAt X D (i + 1) 0 = refAt X D (i + 1) 0 := by
  rw [refAt_nine]
  simp (disch := omega) only [framed_in, framed_out]
  simp only [mul_zero, zero_mul, zero_add, add_zero, count_6]
  rw [Ideal.div_coe (by norm_num)]
  simp only [add_mul_coe _ _ _ (show (0 : ℝ) ≤ 1 / 6 by norm_num)]
  simp only [kerAt, keptAt, weightAt, aboveAt, invAt, threeTwoAt, Nat.mul_add, Nat.add_assoc, Nat.reduceAdd,
    Nat.reduceMul, Nat.mul_zero, Nat.zero_add, Nat.add_sub_cancel, Nat.reduceSubDiff, Nat.reduceSub,
    Nat.add_one_sub_one] at hs ⊢
  simp (disch := omega) only [if_pos, if_neg, one_div_three_two, hs]
  simp only [one_mul, zero_mul, add_zero, ↓reduceIte, shuffle, shuffle_one]
  abel

/-- The window of a pixel in the first row has six members. -/
theorem agree_top (X D : ℕ → ℕ → EReal) (l : ℕ) (hl : l + 1 < 128)
    (hs : alike (D (2 * 0) (2 * (l + 1))) (D (2 * 0) (2 * (l + 1))) = 1) :
    kerAt X D 0 (l + 1) = refAt X D 0 (l + 1) := by
  rw [refAt_nine]
  simp (disch := omega) only [framed_in, framed_out]
  simp only [mul_zero, zero_mul, zero_add, add_zero, count_6]
  rw [Ideal.div_coe (by norm_num)]
  simp only [add_mul_coe _ _ _ (show (0 : ℝ) ≤ 1 / 6 by norm_num)]
  simp only [kerAt, keptAt, weightAt, aboveAt, invAt, threeTwoAt, Nat.mul_add, Nat.add_assoc, Nat.reduceAdd,
    Nat.reduceMul, Nat.mul_zero, Nat.zero_add, Nat.add_sub_cancel, Nat.reduceSubDiff, Nat.reduceSub,
    Nat.add_one_sub_one] at hs ⊢
  simp (disch := omega) only [if_pos, if_neg, one_div_two_three, hs]
  simp only [one_mul, zero_mul, add_zero, ↓reduceIte, shuffle, shuffle_one]
  abel

/-- The window of the first pixel has four members. -/
theorem agree_corner (X D : ℕ → ℕ → EReal)
    (hs : alike (D (2 * 0) (2 * 0)) (D (2 * 0) (2 * 0)) = 1) :
    kerAt X D 0 0 = refAt X D 0 0 := by
  rw [refAt_nine]
  simp (disch := omega) only [framed_in, framed_out]
  simp only [mul_zero, zero_mul, zero_add, add_zero, count_4]
  rw [Ideal.div_coe (by norm_num)]
  simp only [add_mul_coe _ _ _ (show (0 : ℝ) ≤ 1 / 4 by norm_num)]
  simp only [kerAt, keptAt, weightAt, aboveAt, invAt, threeTwoAt, Nat.mul_add, Nat.add_assoc, Nat.reduceAdd,
    Nat.reduceMul, Nat.mul_zero, Nat.zero_add, Nat.add_sub_cancel, Nat.reduceSubDiff, Nat.reduceSub,
    Nat.add_one_sub_one] at hs ⊢
  simp (disch := omega) only [if_pos, if_neg, one_div_two_two, hs]
  simp only [one_mul, zero_mul, add_zero, ↓reduceIte, shuffle, shuffle_one]

/-- At a real centre depth the kernel's weighted sum is the reference's average. -/
theorem agree (X D : ℕ → ℕ → EReal) (i l : ℕ) (hi : i < 128) (hl : l < 128)
    (h : D (2 * i) (2 * l) ≠ ⊤) (h' : D (2 * i) (2 * l) ≠ ⊥) : kerAt X D i l = refAt X D i l := by
  have hs := alike_self _ h h'
  rcases i with _ | i <;> rcases l with _ | l
  · exact agree_corner X D hs
  · exact agree_top X D l hl hs
  · exact agree_left X D i hi hs
  · exact agree_inner X D i l hi hl hs

end Cert.Math

end
-- ==== Proof.WeightValues.lean ====
/- The depth-weights of the body, entry by entry: each of the nine tiles named in `Pieces` is `Math.keptAt` of the depth. -/
module

public import proofs.«01_k».proof.Proof.Pieces
public import proofs.«01_k».proof.Proof.Math
public import Idealize.ShloMosaic.Lib.WordCmp
public import Idealize.ShloMosaic.Lib.Pipeline.Value
public import Idealize.ShloMosaic.Lib.VecWindow

@[expose] public section

set_option maxRecDepth 16384

noncomputable section

namespace Cert.Pool

open Idealize.ShloMosaic Cert.KernelIdeal Cert.KernelIdeal.Gen

/-- The whole depth of one grid point, its two halves side by side. -/
def sideBySide (dl dr : S1x1x256x128.Idx → Elt Ideal .f32) (r c : ℕ) : EReal :=
  if c % 256 < 128 then dl (ix4 0 0 (Fin.ofNat 256 r) (Fin.ofNat 128 c)) else dr (ix4 0 0 (Fin.ofNat 256 r) (Fin.ofNat 128 (c - 128)))

/-- The lane the permutation takes lane `l` from. -/
theorem perm32_apply (a : Fin 32) (l : Fin 128) : perm32 (ix2 a l) = BitVec.ofNat 32 (l.val % 64 * 2 + l.val / 64) := by
  unfold perm32 wrapped evenOdd mod64 div64
  pointwise
  clear a
  revert l
  decide +kernel

/-- The entry of a block named by its numbers. -/
theorem blockEntry (d : S1x1x256x128.Idx → Elt Ideal .f32) (r c r' c' : ℕ) (hr : r < 256) (hc : c < 128) (er : r = r') (ec : c = c') :
    d (ix4 0 0 ⟨r, hr⟩ ⟨c, hc⟩) = d (ix4 0 0 (Fin.ofNat 256 r') (Fin.ofNat 128 c')) := by
  subst er ec
  congr 2 <;> exact Fin.ext (Nat.mod_eq_of_lt (by assumption)).symm

theorem sortedD_apply (d : S1x1x256x128.Idx → Elt Ideal .f32) (t : Fin 255) (ht : t.val + 62 < 256) (a : Fin 32) (l : Fin 128) :
    sortedD d t ht (ix2 a l) = d (ix4 0 0 (Fin.ofNat 256 (t + 2 * a)) (Fin.ofNat 128 (l.val % 64 * 2 + l.val / 64))) := by
  unfold sortedD
  pointwise
  simp only [perm32_apply]
  refine (congrArg d (Rect.emb_unit_full _ _)).trans (blockEntry d _ _ _ _ _ _ rfl ?_)
  simp only [BitVec.toNat_ofNat]
  omega

theorem evenD_apply (dl dr : S1x1x256x128.Idx → Elt Ideal .f32) (t : Fin 255) (ht : t.val + 62 < 256) (a : Fin 32) (l : Fin 128) :
    evenD dl dr t ht (ix2 a l) = sideBySide dl dr (t + 2 * a) (2 * l) := by
  unfold evenD sideBySide
  pointwise
  simp only [sortedD_apply]
  by_cases h : l.val < 64
  · rw [dif_pos h, if_pos (by omega), show l.val % 64 * 2 + l.val / 64 = 2 * l.val by omega]
  · rw [dif_neg h, if_neg (by omega), show (l.val - 64) % 64 * 2 + (l.val - 64) / 64 = 2 * l.val - 128 by omega]

theorem oddD_apply (dl dr : S1x1x256x128.Idx → Elt Ideal .f32) (t : Fin 255) (ht : t.val + 62 < 256) (a : Fin 32) (l : Fin 128) :
    oddD dl dr t ht (ix2 a l) = sideBySide dl dr (t + 2 * a) (2 * l + 1) := by
  unfold oddD sideBySide
  pointwise
  simp only [sortedD_apply]
  by_cases h : l.val < 64
  · rw [dif_pos h, if_pos (by omega), show (64 + l.val) % 64 * 2 + (64 + l.val) / 64 = 2 * l.val + 1 by omega]
  · rw [dif_neg h, if_neg (by omega),
      show (64 + (l.val - 64)) % 64 * 2 + (64 + (l.val - 64)) / 64 = 2 * l.val + 1 - 128 by omega]

theorem weightOf_apply (v d0 inv : FVec Ideal S32x128 .f32) (j : S32x128.Idx) :
    weightOf v d0 inv j = Math.alike (v j) (d0 j) * inv j := by
  unfold weightOf splat
  pointwise
  rw [zero_sub]
  rfl

theorem colOk_apply (a : Fin 32) (l : Fin 128) : colOk (ix2 a l) = if 0 < l.val then 1#1 else 0#1 := by
  unfold colOk
  pointwise
  rw [WordCmp.cmpi_sgt_ofNat (by omega) (by omega), WordCmp.ofBool_decide_eq_ite]

theorem rowOk_apply (a : Fin 32) (l : Fin 128) : rowOk (ix2 a l) = if 0 < a.val then 1#1 else 0#1 := by
  unfold rowOk
  pointwise
  rw [WordCmp.cmpi_sgt_ofNat (by omega) (by omega), WordCmp.ofBool_decide_eq_ite]

theorem bothOk_apply (a : Fin 32) (l : Fin 128) : andi rowOk colOk (ix2 a l) = if 0 < a.val ∧ 0 < l.val then 1#1 else 0#1 := by
  show IntOp.andi (rowOk (ix2 a l)) (colOk (ix2 a l)) = _
  rw [rowOk_apply, colOk_apply]
  by_cases h : 0 < a.val <;> by_cases h' : 0 < l.val <;> simp [h, h', IntOp.andi]

/-- A choice by such a mask. -/
theorem select_ite (p : Prop) [Decidable p] (x y : EReal) :
    Scalar.select (if p then 1#1 else 0#1) x y = if p then x else y := by
  by_cases h : p
  · rw [if_pos h, if_pos h]; rfl
  · rw [if_neg h, if_neg h]; rfl

theorem ofBits_three : Ideal.ofBits .f32 0x40400000#32 = ((3 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem threeTwo_apply (k : IVec S32x128 1) (a : Fin 32) (l : Fin 128) (n : ℕ) (h : k (ix2 a l) = if 0 < n then 1#1 else 0#1) :
    (threeTwo k : FVec Ideal S32x128 .f32) (ix2 a l) = Math.threeTwoAt n := by
  unfold threeTwo splat
  pointwise
  rw [h, select_ite, ofBits_three, ofBits_two]
  rfl

theorem invTop_apply (a : Fin 32) (l : Fin 128) : (invTop : FVec Ideal S32x128 .f32) (ix2 a l) = Math.invAt a l := by
  unfold invTop splat
  pointwise
  rw [threeTwo_apply _ a l a (rowOk_apply a l), threeTwo_apply _ a l l (colOk_apply a l)]
  rfl

theorem invRest_apply (a : Fin 32) (l : Fin 128) (b : ℕ) (hb : 0 < b) :
    (invRest : FVec Ideal S32x128 .f32) (ix2 a l) = Math.invAt (b + a) l := by
  unfold invRest splat
  pointwise
  rw [threeTwo_apply _ a l l (colOk_apply a l), ofBits_three]
  unfold Math.invAt
  rw [show Math.threeTwoAt (b + a) = ((3 : ℝ) : EReal) from if_pos (by omega)]

theorem masked_apply (k : IVec S32x128 1) (w : FVec Ideal S32x128 .f32) (j : S32x128.Idx) (p : Prop) [Decidable p]
    (h : k j = if p then 1#1 else 0#1) : masked k w j = if p then w j else 0 := by
  unfold masked splat
  pointwise
  rw [h, select_ite]

theorem shiftL_apply (v : FVec Ideal S32x128 .f32) (a : Fin 32) (l : Fin 128) :
    shiftL v (ix2 a l) = if h : l.val < 127 then v (ix2 a ⟨l.val + 1, by omega⟩) else 0 := by
  unfold shiftL
  pointwise
  simp only [Nat.add_comm 1]

theorem shiftR_apply (v : FVec Ideal S32x128 .f32) (a : Fin 32) (l : Fin 128) :
    shiftR v (ix2 a l) = if h : l.val < 1 then 0 else v (ix2 a ⟨l.val - 1, by omega⟩) := by
  unfold shiftR
  pointwise

theorem shiftDown_apply (v : FVec Ideal S32x128 .f32) (a : Fin 32) (l : Fin 128) :
    shiftDown v (ix2 a l) = if h : a.val < 1 then 0 else v (ix2 ⟨a.val - 1, by omega⟩ l) := by
  unfold shiftDown
  pointwise

/-- A weight of the window's left column, kept one lane to the left. -/
theorem shifted_apply (k : IVec S32x128 1) (v d0 inv : FVec Ideal S32x128 .f32) (a : Fin 32) (l : Fin 128) (p : Prop) [Decidable p]
    (h : ∀ l : Fin 128, k (ix2 a l) = if p ∧ 0 < l.val then 1#1 else 0#1) :
    shiftL (masked k (weightOf (shiftR v) d0 inv)) (ix2 a l) = if h : l.val < 127 then if p then
      Math.alike (v (ix2 a l)) (d0 (ix2 a ⟨l.val + 1, by omega⟩)) * inv (ix2 a ⟨l.val + 1, by omega⟩) else 0 else 0 := by
  rw [shiftL_apply]
  by_cases hl : l.val < 127
  · rw [dif_pos hl, dif_pos hl, masked_apply _ _ _ _ (h _), weightOf_apply, shiftR_apply, dif_neg (by simp)]
    simp
  · rw [dif_neg hl, dif_neg hl]

/-- THE FIRST TILE'S WEIGHTS. -/
theorem top_apply (D : ℕ → ℕ → EReal) (d0 deo doe doo : FVec Ideal S32x128 .f32)
    (h0 : ∀ a l, d0 (ix2 a l) = D (2 * a.val) (2 * l.val)) (h1 : ∀ a l, deo (ix2 a l) = D (2 * a.val) (2 * l.val + 1))
    (h2 : ∀ a l, doe (ix2 a l) = D (2 * a.val + 1) (2 * l.val)) (h3 : ∀ a l, doo (ix2 a l) = D (2 * a.val + 1) (2 * l.val + 1))
    (k : Fin 9) (a : Fin 32) (l : Fin 128) : topWeights d0 deo doe doo k (ix2 a l) = Math.keptAt D k a l := by
  have above (v : FVec Ideal S32x128 .f32) (c : ℕ) (hv : ∀ a : Fin 32, v (ix2 a l) = D (2 * a.val + 1) c) (ha : 0 < a.val) :
      shiftDown v (ix2 a l) = D (2 * a.val - 1) c := by
    rw [shiftDown_apply, dif_neg (by omega), hv, show 2 * (a.val - 1) + 1 = 2 * a.val - 1 by omega]
  have hc : ∀ l : Fin 128, colOk (ix2 a l) = if True ∧ 0 < l.val then 1#1 else 0#1 := fun l => by
    rw [colOk_apply]; simp
  match k with
  | 0 => exact invTop_apply a l
  | 1 => show weightOf deo d0 invTop (ix2 a l) = _; rw [weightOf_apply, h0, h1, invTop_apply]; rfl
  | 2 =>
    show shiftL (masked colOk (weightOf (shiftR deo) d0 invTop)) (ix2 a l) = _
    rw [shifted_apply _ _ _ _ _ _ True hc]
    simp only [h0, h1, invTop_apply, if_true, dite_eq_ite]; rfl
  | 3 => show weightOf doe d0 invTop (ix2 a l) = _; rw [weightOf_apply, h0, h2, invTop_apply]; rfl
  | 4 =>
    show masked rowOk (weightOf (shiftDown doe) d0 invTop) (ix2 a l) = _
    rw [masked_apply _ _ _ _ (rowOk_apply a l), weightOf_apply, h0, invTop_apply]
    exact if_ctx_congr Iff.rfl (fun ha => by rw [above doe (2 * l) (fun a => h2 a l) ha]; rfl) fun _ => rfl
  | 5 => show weightOf doo d0 invTop (ix2 a l) = _; rw [weightOf_apply, h0, h3, invTop_apply]; rfl
  | 6 =>
    show shiftL (masked colOk (weightOf (shiftR doo) d0 invTop)) (ix2 a l) = _
    rw [shifted_apply _ _ _ _ _ _ True hc]
    simp only [h0, h3, invTop_apply, if_true, dite_eq_ite]; rfl
  | 7 =>
    show masked rowOk (weightOf (shiftDown doo) d0 invTop) (ix2 a l) = _
    rw [masked_apply _ _ _ _ (rowOk_apply a l), weightOf_apply, h0, invTop_apply]
    exact if_ctx_congr Iff.rfl (fun ha => by rw [above doo (2 * l + 1) (fun a => h3 a l) ha]; rfl) fun _ => rfl
  | 8 =>
    show shiftL (masked (andi rowOk colOk) (weightOf (shiftR (shiftDown doo)) d0 invTop)) (ix2 a l) = _
    rw [shifted_apply _ _ _ _ _ _ (0 < a.val) fun l => bothOk_apply a l]
    simp only [h0, invTop_apply, dite_eq_ite]
    exact if_ctx_congr Iff.rfl (fun _ => if_ctx_congr Iff.rfl
      (fun ha => by rw [above doo (2 * l + 1) (fun a => h3 a l) ha]; rfl) fun _ => rfl) fun _ => rfl

/-- THE WEIGHTS OF A TILE BELOW IT, whose first row is row `b`. -/
theorem rest_apply (D : ℕ → ℕ → EReal) (b : ℕ) (hb : 0 < b) (d0 deo doe doo noe noo : FVec Ideal S32x128 .f32)
    (h0 : ∀ a l, d0 (ix2 a l) = D (2 * (b + a.val)) (2 * l.val)) (h1 : ∀ a l, deo (ix2 a l) = D (2 * (b + a.val)) (2 * l.val + 1))
    (h2 : ∀ a l, doe (ix2 a l) = D (2 * (b + a.val) + 1) (2 * l.val)) (h3 : ∀ a l, doo (ix2 a l) = D (2 * (b + a.val) + 1) (2 * l.val + 1))
    (h4 : ∀ a l, noe (ix2 a l) = D (2 * (b + a.val) - 1) (2 * l.val)) (h5 : ∀ a l, noo (ix2 a l) = D (2 * (b + a.val) - 1) (2 * l.val + 1))
    (k : Fin 9) (a : Fin 32) (l : Fin 128) : restWeights d0 deo doe doo noe noo k (ix2 a l) = Math.keptAt D k (b + a) l := by
  have hc : ∀ l : Fin 128, colOk (ix2 a l) = if True ∧ 0 < l.val then 1#1 else 0#1 := fun l => by
    rw [colOk_apply]; simp
  have hi : 0 < b + a.val := by omega
  have plain (v : FVec Ideal S32x128 .f32) (r c : ℕ) (hv : v (ix2 a l) = D r c) :
      weightOf v d0 invRest (ix2 a l) = Math.weightAt D (b + a) l r c := by
    rw [weightOf_apply, h0, hv, invRest_apply a l b hb]; rfl
  have left (v : FVec Ideal S32x128 .f32) (r c : ℕ) (hv : v (ix2 a l) = D r c) :
      shiftL (masked colOk (weightOf (shiftR v) d0 invRest)) (ix2 a l)
        = if l.val < 127 then Math.weightAt D (b + a) (l + 1) r c else 0 := by
    rw [shifted_apply _ _ _ _ _ _ True hc]
    simp only [h0, hv, invRest_apply _ _ b hb, if_true, dite_eq_ite]; rfl
  match k with
  | 0 => exact invRest_apply a l b hb
  | 1 => exact plain deo _ _ (h1 a l)
  | 2 => exact left deo _ _ (h1 a l)
  | 3 => exact plain doe _ _ (h2 a l)
  | 4 => exact (plain noe _ _ (h4 a l)).trans (if_pos hi).symm
  | 5 => exact plain doo _ _ (h3 a l)
  | 6 => exact left doo _ _ (h3 a l)
  | 7 => exact (plain noo _ _ (h5 a l)).trans (if_pos hi).symm
  | 8 => exact (left noo _ _ (h5 a l)).trans (if_congr Iff.rfl (if_pos hi).symm rfl)

/-- THE WEIGHTS OF EVERY TILE. -/
theorem tileWeights_apply (dl dr : S1x1x256x128.Idx → Elt Ideal .f32) (q : Fin 4) (k : Fin 9) (a : Fin 32) (l : Fin 128) :
    tileWeights dl dr q k (ix2 a l) = Math.keptAt (sideBySide dl dr) k (32 * q + a) l := by
  match q with
  | ⟨0, _⟩ =>
    rw [show 32 * ((⟨0, by omega⟩ : Fin 4) : ℕ) + a.val = a.val by simp]
    refine top_apply _ _ _ _ _ ?_ ?_ ?_ ?_ k a l <;> intro a l
    · rw [evenD_apply]; congr 1; simp
    · rw [oddD_apply]; congr 1; simp
    · rw [evenD_apply]; congr 1; simp; omega
    · rw [oddD_apply]; congr 1; simp; omega
  | ⟨q + 1, hq⟩ =>
    refine rest_apply _ (32 * (q + 1)) (by omega) _ _ _ _ _ _ ?_ ?_ ?_ ?_ ?_ ?_ k a l <;> intro a l
    · rw [evenD_apply]; congr 1; simp; omega
    · rw [oddD_apply]; congr 1; simp; omega
    · rw [evenD_apply]; congr 1; simp; omega
    · rw [oddD_apply]; congr 1; simp; omega
    · rw [evenD_apply]; congr 1; simp; omega
    · rw [oddD_apply]; congr 1; simp; omega

/-- What the weights' scratch holds at an index. -/
def weightsAt (dl dr : S1x1x256x128.Idx → Elt Ideal .f32) (y : S9x128x128.Idx) : Elt Ideal .f32 :=
  Math.keptAt (sideBySide dl dr) (y 0) (y 1).val (y 2).val

theorem weightPiece_apply (dl dr : S1x1x256x128.Idx → Elt Ideal .f32) (k : Fin 9) (q : Fin 4) (y : S1x32x128.Idx) :
    (weightPiece k q (tileWeights dl dr q k)).2 y
      = weightsAt dl dr ((weightPiece k q (tileWeights dl dr q k)).1.emb y) := by
  obtain ⟨a, l, rfl⟩ : ∃ (a : Fin 32) (l : Fin 128), y = ix3 0 a l :=
    ⟨y 1, y 2, (eq_ix3 y).trans (by congr 1; exact Subsingleton.elim _ _)⟩
  have e0 : (weightPiece k q (tileWeights dl dr q k)).1.emb (ix3 0 a l : S1x32x128.Idx) 0 = k :=
    Fin.ext (by show k.val + 1 * 0 = k.val; omega)
  have e1 : ((weightPiece k q (tileWeights dl dr q k)).1.emb (ix3 0 a l : S1x32x128.Idx) 1).val = 32 * q.val + a.val := by
    show 32 * q.val + 1 * a.val = _; omega
  have e2 : ((weightPiece k q (tileWeights dl dr q k)).1.emb (ix3 0 a l : S1x32x128.Idx) 2).val = l.val := by
    show 0 + 1 * l.val = _; omega
  unfold weightsAt
  rw [e0, e1, e2, ← tileWeights_apply]
  show shapeCast S1x32x128 (tileWeights dl dr q k) shapeCasts_S32x128_S1x32x128 (ix3 0 a l) = _
  pointwise

/-- THE SCRATCH at an index. -/
theorem weights_apply (dl dr : S1x1x256x128.Idx → Elt Ideal .f32) (y : S9x128x128.Idx) :
    View.canon (weightPieces dl dr) y = weightsAt dl dr y := by
  refine View.canon_apply_of_pieces (weightsAt dl dr) _ ?_ y ?_
  · intro p hp x
    obtain ⟨q, -, hq⟩ := List.mem_flatMap.mp hp
    obtain ⟨k, -, rfl⟩ := List.mem_map.mp hq
    exact weightPiece_apply dl dr k q x
  · have b1 : (y 1).val < 128 := (y 1).isLt
    have b2 : (y 2).val < 128 := (y 2).isLt
    refine ⟨weightPiece (y 0) ⟨(y 1).val / 32, by omega⟩ (tileWeights dl dr ⟨(y 1).val / 32, by omega⟩ (y 0)),
      List.mem_flatMap.mpr ⟨⟨(y 1).val / 32, by omega⟩, ?_, List.mem_map.mpr ⟨y 0, ?_, rfl⟩⟩,
      (Rect.mem_set_unit (inb := weightInb (y 0) ⟨(y 1).val / 32, by omega⟩)).mpr fun a => ?_⟩
    · generalize (⟨(y 1).val / 32, _⟩ : Fin 4) = q; fin_cases q <;> simp
    · generalize (y 0 : Fin 9) = k; fin_cases k <;> simp
    · match a with
      | ⟨0, _⟩ => show (y 0).val ≤ (y 0).val ∧ (y 0).val < (y 0).val + 1; omega
      | ⟨1, _⟩ => show 32 * ((y 1).val / 32) ≤ (y 1).val ∧ (y 1).val < 32 * ((y 1).val / 32) + 32; omega
      | ⟨2, _⟩ => show 0 ≤ (y 2).val ∧ (y 2).val < 0 + 128; omega

end Cert.Pool

end
-- ==== Proof.PhaseValues.lean ====
/- The input's scratch, entry by entry: after all the stores named in `Pieces` it holds the pixels of the block, sorted by the
   parity of their row and column, one row down and a zero row above the odd rows. -/
module

public import proofs.«01_k».proof.Proof.Pieces
public import Idealize.ShloMosaic.Lib.Pointwise
public import Idealize.ShloMosaic.Lib.Pipeline.Value

@[expose] public section

set_option maxRecDepth 16384

noncomputable section

namespace Cert.Pool

open Idealize.ShloMosaic Cert.KernelIdeal Cert.KernelIdeal.Gen

/-- One channel of the whole input block, its two halves side by side. -/
def halves (xl xr : S1x64x256x128.Idx → Elt Ideal .f32) (c : Fin 64) (r l : ℕ) : EReal :=
  if l % 256 < 128 then xl (ix4 0 c (Fin.ofNat 256 r) (Fin.ofNat 128 l)) else xr (ix4 0 c (Fin.ofNat 256 r) (Fin.ofNat 128 (l - 128)))

/-- What the scratch holds at an index that has been stored into. -/
def phaseAt (xl xr : S1x64x256x128.Idx → Elt Ideal .f32) (y : S4x64x136x128.Idx) : Elt Ideal .f32 :=
  if (y 2).val = 0 then (0 : EReal) else halves xl xr (y 1) (2 * ((y 2).val - 1) + (y 0).val / 2) (2 * (y 3).val + (y 0).val % 2)

/-- The lane the permutation takes lane `l` from. -/
theorem perm16_apply (c : Fin 16) (a l : Fin 128) : perm16 (ix3 c a l) = BitVec.ofNat 32 (l.val % 64 * 2 + l.val / 64) := by
  unfold perm16 wrapped evenOdd mod64 div64
  pointwise
  clear a c
  revert l
  decide +kernel

theorem rowsX_apply (x : S1x64x256x128.Idx → Elt Ideal .f32) (g : Fin 4) (r : Fin 2) (c : Fin 16) (a l : Fin 128) :
    rowsX x g r (ix4 0 c a l) = x (ix4 0 ⟨16 * g.val + c.val, by omega⟩ ⟨r.val + 2 * a.val, by omega⟩ l) := by
  unfold rowsX
  refine congrArg x (funext fun d => Fin.ext ?_)
  match d with
  | ⟨0, _⟩ => rfl
  | ⟨1, _⟩ => show 16 * g.val + 1 * c.val = 16 * g.val + c.val; omega
  | ⟨2, _⟩ => rfl
  | ⟨3, _⟩ => show 0 + 1 * l.val = l.val; omega

theorem phaseX_apply (x : S1x64x256x128.Idx → Elt Ideal .f32) (g : Fin 4) (r p : Fin 2) (c : Fin 16) (a : Fin 128) (l : Fin 64) :
    phaseX x g r p (ix4 0 c a l)
      = x (ix4 0 ⟨16 * g.val + c.val, by omega⟩ ⟨r.val + 2 * a.val, by omega⟩ ⟨2 * l.val + p.val, by omega⟩) := by
  unfold phaseX sortedX
  pointwise
  simp only [perm16_apply, rowsX_apply]
  congr 2
  refine Fin.ext ?_
  simp only [BitVec.toNat_ofNat]
  rw [show (64 * p.val + l.val) / 64 = p.val by omega, show (64 * p.val + l.val) % 64 = l.val by omega]
  omega

/-- An entry of a block named by its numbers. -/
theorem inputEntry (x : S1x64x256x128.Idx → Elt Ideal .f32) (c : Fin 64) (r l r' l' : ℕ) (hr : r < 256) (hl : l < 128) (er : r = r')
    (el : l = l') : x (ix4 0 c ⟨r, hr⟩ ⟨l, hl⟩) = x (ix4 0 c (Fin.ofNat 256 r') (Fin.ofNat 128 l')) := by
  subst er el
  congr 2 <;> exact Fin.ext (Nat.mod_eq_of_lt (by assumption)).symm

theorem phasePiece_apply (xl xr x : S1x64x256x128.Idx → Elt Ideal .f32) (g : Fin 4) (r p h : Fin 2) (hx : x = if h = 0 then xl else xr)
    (y : S1x16x128x64.Idx) :
    (phasePiece x g r p h).2 y = phaseAt xl xr ((phasePiece x g r p h).1.emb y) := by
  obtain ⟨c, a, l, rfl⟩ : ∃ (c : Fin 16) (a : Fin 128) (l : Fin 64), y = ix4 0 c a l :=
    ⟨y 1, y 2, y 3, (eq_ix4 y).trans (by congr 1; exact Subsingleton.elim _ _)⟩
  show phaseX x g r p (ix4 0 c a l) = _
  rw [phaseX_apply]
  unfold phaseAt halves
  have e0 : ((phasePiece x g r p h).1.emb (ix4 0 c a l : S1x16x128x64.Idx) 0).val = 2 * r.val + p.val := by
    show 2 * r.val + p.val + 1 * 0 = _; omega
  have e1 : (phasePiece x g r p h).1.emb (ix4 0 c a l : S1x16x128x64.Idx) 1 = (⟨16 * g.val + c.val, by omega⟩ : Fin 64) :=
    Fin.ext (by show 16 * g.val + 1 * c.val = 16 * g.val + c.val; omega)
  have e2 : ((phasePiece x g r p h).1.emb (ix4 0 c a l : S1x16x128x64.Idx) 2).val = 1 + a.val := by
    show 1 + 1 * a.val = _; omega
  have e3 : ((phasePiece x g r p h).1.emb (ix4 0 c a l : S1x16x128x64.Idx) 3).val = 64 * h.val + l.val := by
    show 64 * h.val + 1 * l.val = _; omega
  rw [e0, e1, e2, e3, if_neg (by omega)]
  match h, hx with
  | 0, hx =>
    rw [show x = xl from hx.trans (if_pos rfl), if_pos (by simp; omega)]
    exact inputEntry xl _ _ _ _ _ _ _ (by omega) (by simp; omega)
  | 1, hx =>
    rw [show x = xr from hx.trans (if_neg (by decide : ¬(1 : Fin 2) = 0)), if_neg (by simp; omega)]
    exact inputEntry xr _ _ _ _ _ _ _ (by omega) (by simp; omega)

theorem zeroPiece_apply (xl xr : S1x64x256x128.Idx → Elt Ideal .f32) (g : Fin 4) (p : Fin 2) (y : S1x16x1x128.Idx) :
    (zeroPiece (F := Ideal) g p).2 y = phaseAt xl xr ((zeroPiece (F := Ideal) g p).1.emb y) := by
  unfold phaseAt
  rw [if_pos (by show 0 + 1 * (y 2).val = 0; have := (y 2).isLt; simp at this; omega)]
  exact Ideal.ofBits_zero_f32

/-- Every phase of every half is stored. -/
theorem phase_mem (xl xr : S1x64x256x128.Idx → Elt Ideal .f32) (g : Fin 4) (r p h : Fin 2) :
    phasePiece (if h = 0 then xl else xr) g r p h ∈ phasePieces xl xr := by
  refine List.mem_flatMap.mpr ⟨g, by fin_cases g <;> simp, ?_⟩
  fin_cases r <;> fin_cases p <;> fin_cases h <;> simp

/-- And so is the zero row above each phase of the odd rows. -/
theorem zero_mem (xl xr : S1x64x256x128.Idx → Elt Ideal .f32) (g : Fin 4) (p : Fin 2) :
    zeroPiece g p ∈ phasePieces xl xr := by
  refine List.mem_flatMap.mpr ⟨g, by fin_cases g <;> simp, ?_⟩
  fin_cases p <;> simp

/-- THE SCRATCH at a stored index. -/
theorem phases_apply (xl xr : S1x64x256x128.Idx → Elt Ideal .f32) (y : S4x64x136x128.Idx) (h : 1 ≤ (y 2).val ∨ 2 ≤ (y 0).val)
    (h' : (y 2).val ≤ 128) : View.canon (phasePieces xl xr) y = phaseAt xl xr y := by
  refine View.canon_apply_of_pieces (phaseAt xl xr) _ ?_ y ?_
  · intro p hp x
    simp only [phasePieces, List.mem_flatMap, List.mem_cons, List.not_mem_nil, or_false] at hp
    obtain ⟨g, -, rfl | rfl | rfl | rfl | rfl | rfl | rfl | rfl | rfl | rfl⟩ := hp
    all_goals first
      | exact zeroPiece_apply xl xr g _ x
      | exact phasePiece_apply xl xr _ g _ _ _ rfl x
  · have b0 : (y 0).val < 4 := (y 0).isLt
    have b1 : (y 1).val < 64 := (y 1).isLt
    have b3 : (y 3).val < 128 := (y 3).isLt
    by_cases h2 : (y 2).val = 0
    · refine ⟨_, zero_mem xl xr ⟨(y 1).val / 16, by omega⟩ ⟨(y 0).val - 2, by omega⟩,
        (Rect.mem_set_unit (inb := zeroInb ⟨(y 1).val / 16, by omega⟩ ⟨(y 0).val - 2, by omega⟩)).mpr fun a => ?_⟩
      match a with
      | ⟨0, _⟩ => show 2 + ((y 0).val - 2) ≤ (y 0).val ∧ (y 0).val < 2 + ((y 0).val - 2) + 1; omega
      | ⟨1, _⟩ => show 16 * ((y 1).val / 16) ≤ (y 1).val ∧ (y 1).val < 16 * ((y 1).val / 16) + 16; omega
      | ⟨2, _⟩ => show 0 ≤ (y 2).val ∧ (y 2).val < 0 + 1; omega
      | ⟨3, _⟩ => show 0 ≤ (y 3).val ∧ (y 3).val < 0 + 128; omega
    · refine ⟨_, phase_mem xl xr ⟨(y 1).val / 16, by omega⟩ ⟨(y 0).val / 2, by omega⟩ ⟨(y 0).val % 2, by omega⟩
        ⟨(y 3).val / 64, by omega⟩, (Rect.mem_set_unit (inb := phaseInb ⟨(y 1).val / 16, by omega⟩ ⟨(y 0).val / 2, by omega⟩
        ⟨(y 0).val % 2, by omega⟩ ⟨(y 3).val / 64, by omega⟩)).mpr fun a => ?_⟩
      match a with
      | ⟨0, _⟩ =>
        show 2 * ((y 0).val / 2) + (y 0).val % 2 ≤ (y 0).val ∧ (y 0).val < 2 * ((y 0).val / 2) + (y 0).val % 2 + 1; omega
      | ⟨1, _⟩ => show 16 * ((y 1).val / 16) ≤ (y 1).val ∧ (y 1).val < 16 * ((y 1).val / 16) + 16; omega
      | ⟨2, _⟩ => show 1 ≤ (y 2).val ∧ (y 2).val < 1 + 128; omega
      | ⟨3, _⟩ => show 64 * ((y 3).val / 64) ≤ (y 3).val ∧ (y 3).val < 64 * ((y 3).val / 64) + 64; omega

end Cert.Pool

end
-- ==== Proof.OutValues.lean ====
/- The output block, entry by entry: every tile stored is `Math.kerAt` of the input and depth blocks, and the tiles cover the block. -/
module

public import proofs.«01_k».proof.Proof.WeightValues
public import proofs.«01_k».proof.Proof.PhaseValues

@[expose] public section

set_option maxRecDepth 16384

noncomputable section

namespace Cert.Pool

open Idealize.ShloMosaic Cert.KernelIdeal Cert.KernelIdeal.Gen

variable (xl xr : S1x64x256x128.Idx → Elt Ideal .f32) (dl dr : S1x1x256x128.Idx → Elt Ideal .f32)
variable (arg7 : Memref sig .tc .vmem S9x128x128 .f32) (arg8 : Memref sig .tc .vmem S4x64x136x128 .f32)

theorem dropOne (v : FVec Ideal S1x32x128 .f32) (a : Fin 32) (l : Fin 128) :
    shapeCast S32x128 v shapeCasts_S1x32x128_S32x128 (ix2 a l) = v (ix3 0 a l) := by
  pointwise

theorem dropTwo (v : FVec Ideal S1x1x32x128 .f32) (a : Fin 32) (l : Fin 128) :
    shapeCast S32x128 v shapeCasts_S1x1x32x128_S32x128 (ix2 a l) = v (ix4 0 0 a l) := by
  pointwise

theorem addTwo (v : FVec Ideal S32x128 .f32) (a : Fin 32) (l : Fin 128) :
    shapeCast S1x1x32x128 v shapeCasts_S32x128_S1x1x32x128 (ix4 0 0 a l) = v (ix2 a l) := by
  pointwise

theorem loadWeight_apply (k : Fin 9) (q : Fin 4) (a : Fin 32) (l : Fin 128) :
    loadWeight arg7 (weightPieces dl dr) k q (ix2 a l) = Math.keptAt (sideBySide dl dr) k (32 * q + a) l := by
  unfold loadWeight
  rw [dropOne, View.readCov_eq_canon']
  show View.canon (weightPieces dl dr) _ = _
  rw [weights_apply]
  unfold weightsAt
  congr 1
  · show 32 * q.val + 1 * a.val = _; omega
  · show 0 + 1 * l.val = _; omega

theorem loadPhase_apply (p : Fin 4) (c : Fin 64) (r : Fin 98) (hr : r.val < 98) (h : 1 ≤ r.val ∨ 2 ≤ p.val) (a : Fin 32) (l : Fin 128)
    (h' : r.val + a.val ≤ 128) :
    loadPhase arg8 (phasePieces xl xr) p c r hr (ix2 a l) = if r.val + a.val = 0 then (0 : EReal) else
      halves xl xr c (2 * (r.val + a.val - 1) + p.val / 2) (2 * l + p.val % 2) := by
  unfold loadPhase
  rw [dropTwo, View.readCov_eq_canon']
  show View.canon (phasePieces xl xr) _ = _
  rw [phases_apply]
  · unfold phaseAt
    refine if_congr ?_ rfl ?_
    · show r.val + 1 * a.val = 0 ↔ _; omega
    · congr 1
      · show 2 * (r.val + 1 * a.val - 1) + (p.val + 1 * 0) / 2 = _; omega
      · show 2 * (0 + 1 * l.val) + (p.val + 1 * 0) % 2 = _; omega
  · show 1 ≤ r.val + 1 * a.val ∨ 2 ≤ p.val + 1 * 0; omega
  · show r.val + 1 * a.val ≤ 128; omega

/-- The rows a window is centred on, and those below it. -/
theorem loadCentre (p : Fin 4) (c : Fin 64) (q : Fin 4) (hr : 32 * q.val + 1 < 98) (a : Fin 32) (l : Fin 128) :
    loadPhase arg8 (phasePieces xl xr) p c ⟨32 * q.val + 1, hr⟩ hr (ix2 a l)
      = halves xl xr c (2 * (32 * q + a) + p.val / 2) (2 * l + p.val % 2) := by
  rw [loadPhase_apply xl xr arg8 p c _ hr (.inl (Nat.le_add_left _ _)) a l (by show 32 * q.val + 1 + a.val ≤ 128; omega)]
  show (if 32 * q.val + 1 + a.val = 0 then (0 : EReal) else halves xl xr c (2 * (32 * q.val + 1 + a.val - 1) + _) _) = _
  rw [if_neg (by omega), show 32 * q.val + 1 + a.val - 1 = 32 * q.val + a.val by omega]

/-- The odd rows above them. -/
theorem loadAbove (p : Fin 4) (hp : 2 ≤ p.val) (c : Fin 64) (q : Fin 4) (hr : 32 * q.val < 98) (a : Fin 32) (l : Fin 128) :
    loadPhase arg8 (phasePieces xl xr) p c ⟨32 * q.val, hr⟩ hr (ix2 a l)
      = Math.aboveAt (halves xl xr c) (32 * q + a) (2 * l + p.val % 2) := by
  rw [loadPhase_apply xl xr arg8 p c _ hr (.inr hp) a l (by show 32 * q.val + a.val ≤ 128; omega)]
  show (if 32 * q.val + a.val = 0 then (0 : EReal) else halves xl xr c (2 * (32 * q.val + a.val - 1) + p.val / 2) _) = _
  refine if_ctx_congr Iff.rfl (fun _ => rfl) fun h => ?_
  rw [show 2 * (32 * q.val + a.val - 1) + p.val / 2 = 2 * (32 * q.val + a.val) - 1 by omega]

/-- THE TILE STORED. -/
theorem outTile_apply (c : Fin 64) (q : Fin 4) (a : Fin 32) (l : Fin 128) :
    outTile arg7 arg8 (weightPieces dl dr) (phasePieces xl xr) c q (ix2 a l)
      = Math.kerAt (halves xl xr c) (sideBySide dl dr) (32 * q + a) l := by
  unfold outTile windowSum
  pointwise
  simp only [shiftR_apply]
  pointwise
  simp only [loadWeight_apply, loadCentre, loadAbove _ _ _ 2 (by decide), loadAbove _ _ _ 3 (by decide)]
  unfold Math.kerAt
  congr 1
  by_cases h : l.val < 1
  · rw [dif_pos h, if_pos (by omega)]
  · rw [dif_neg h, if_neg (by omega)]
    rfl

/-- What the output block holds at an index. -/
def outAt (y : S1x64x128x128.Idx) : Elt Ideal .f32 := Math.kerAt (halves xl xr (y 1)) (sideBySide dl dr) (y 2).val (y 3).val

theorem outPiece_apply (c : Fin 64) (q : Fin 4) (y : S1x1x32x128.Idx) :
    (outPiece arg7 arg8 (weightPieces dl dr) (phasePieces xl xr) c q).2 y
      = outAt xl xr dl dr ((outPiece arg7 arg8 (weightPieces dl dr) (phasePieces xl xr) c q).1.emb y) := by
  obtain ⟨a, l, rfl⟩ : ∃ (a : Fin 32) (l : Fin 128), y = ix4 0 0 a l :=
    ⟨y 2, y 3, (eq_ix4 y).trans (by congr 1 <;> exact Subsingleton.elim _ _)⟩
  show shapeCast S1x1x32x128 (outTile arg7 arg8 (weightPieces dl dr) (phasePieces xl xr) c q) shapeCasts_S32x128_S1x1x32x128
    (ix4 0 0 a l) = _
  rw [addTwo, outTile_apply]
  unfold outAt
  congr 1
  · show _ = 32 * q.val + 1 * a.val; omega
  · show _ = 0 + 1 * l.val; omega

/-- THE BLOCK at an index. -/
theorem out_apply (y : S1x64x128x128.Idx) :
    View.canon (outPieces arg7 arg8 (weightPieces dl dr) (phasePieces xl xr)) y = outAt xl xr dl dr y := by
  refine View.canon_apply_of_pieces (outAt xl xr dl dr) _ ?_ y ?_
  · intro p hp x
    obtain ⟨q, -, hq⟩ := List.mem_flatMap.mp hp
    obtain ⟨c, -, rfl⟩ := List.mem_map.mp hq
    exact outPiece_apply xl xr dl dr arg7 arg8 c q x
  · have b0 : (y 0).val < 1 := (y 0).isLt
    have b2 : (y 2).val < 128 := (y 2).isLt
    have b3 : (y 3).val < 128 := (y 3).isLt
    refine ⟨outPiece arg7 arg8 _ _ (y 1) ⟨(y 2).val / 32, by omega⟩,
      List.mem_flatMap.mpr ⟨⟨(y 2).val / 32, by omega⟩, ?_, List.mem_map.mpr ⟨y 1, ?_, rfl⟩⟩,
      (Rect.mem_set_unit (inb := outInb (y 1) ⟨(y 2).val / 32, by omega⟩)).mpr fun a => ?_⟩
    · generalize (⟨(y 2).val / 32, _⟩ : Fin 4) = q; fin_cases q <;> simp
    · exact List.mem_reverse.mpr (List.mem_finRange _)
    · match a with
      | ⟨0, _⟩ => show 0 ≤ (y 0).val ∧ (y 0).val < 0 + 1; omega
      | ⟨1, _⟩ => show (y 1).val ≤ (y 1).val ∧ (y 1).val < (y 1).val + 1; omega
      | ⟨2, _⟩ => show 32 * ((y 2).val / 32) ≤ (y 2).val ∧ (y 2).val < 32 * ((y 2).val / 32) + 32; omega
      | ⟨3, _⟩ => show 0 ≤ (y 3).val ∧ (y 3).val < 0 + 128; omega

end Cert.Pool

end
-- ==== Proof.KernelValue.lean ====
/- The kernel's result array, entry by entry, of the two argument arrays. -/
module

public import proofs.«01_k».proof.Proof.Run
public import proofs.«01_k».proof.Proof.OutValues
public import Idealize.ShloMosaic.Lib.Pipeline.ValueKit

@[expose] public section

set_option maxRecDepth 16384

noncomputable section

namespace Cert.Pool

open Idealize.ShloMosaic Idealize.ShloMosaic.TcCoe Idealize.ShloMosaic.Tactic Cert.KernelIdeal Cert.KernelIdeal.Gen

variable (m : (ℓ : Loc nD τ sig) → Buf (Elt Ideal) ℓ) (c : Dev nD)

/-- WHAT A GRID POINT LEAVES in its output block. -/
theorem outs_apply (t : Fin cfg0.N) (y : S1x64x128x128.Idx) :
    outsAt0 m c t y = outAt (iblk m c 0 t) (iblk m c 1 t) (iblk m c 2 t) (iblk m c 3 t) y := by
  unfold outsAt0 out0_A_4
  rw [View.read_writes_junk_eq_canon, out_run, weight_run, phase_run]
  simp only [Memref.IsWhole.read_unread]
  exact out_apply _ _ _ _ _ _ y

theorem index0 : ∀ t : Fin grid0.N, win0_0.index t = ![(grid0.coords t 0).val, (grid0.coords t 1).val, 0, 0] := by decide +kernel
theorem index1 : ∀ t : Fin grid0.N, win0_1.index t = ![(grid0.coords t 0).val, (grid0.coords t 1).val, 0, 1] := by decide +kernel
theorem index2 : ∀ t : Fin grid0.N, win0_2.index t = ![(grid0.coords t 0).val, 0, 0, 0] := by decide +kernel
theorem index3 : ∀ t : Fin grid0.N, win0_3.index t = ![(grid0.coords t 0).val, 0, 0, 1] := by decide +kernel
theorem index4 : ∀ t : Fin grid0.N, win0_4.index t = ![(grid0.coords t 0).val, (grid0.coords t 1).val, 0, 0] := by decide +kernel

/-- The left half of the input, -/
theorem block0 (t : Fin cfg0.N) (ch : Fin 64) (r : Fin 256) (l : Fin 128) :
    iblk m c 0 t (ix4 0 ch r l) = m ((c.tc : Thread nD τ).loc main_arg0) (ix4 (grid0.coords t 0) ch r ⟨l.val, by omega⟩) := by
  blk_ext [iblk, V, index0]

/-- its right half, -/
theorem block1 (t : Fin cfg0.N) (ch : Fin 64) (r : Fin 256) (l : Fin 128) :
    iblk m c 1 t (ix4 0 ch r l) = m ((c.tc : Thread nD τ).loc main_arg0) (ix4 (grid0.coords t 0) ch r ⟨128 + l.val, by omega⟩) := by
  blk_ext [iblk, V, index1]

/-- the left half of the depth, -/
theorem block2 (t : Fin cfg0.N) (r : Fin 256) (l : Fin 128) :
    iblk m c 2 t (ix4 0 0 r l) = m ((c.tc : Thread nD τ).loc main_arg1) (ix4 (grid0.coords t 0) 0 r ⟨l.val, by omega⟩) := by
  blk_ext [iblk, V, index2]

/-- and its right half. -/
theorem block3 (t : Fin cfg0.N) (r : Fin 256) (l : Fin 128) :
    iblk m c 3 t (ix4 0 0 r l) = m ((c.tc : Thread nD τ).loc main_arg1) (ix4 (grid0.coords t 0) 0 r ⟨128 + l.val, by omega⟩) := by
  blk_ext [iblk, V, index3]

/-- The two halves of the input side by side are the input's channel. -/
theorem halves_blocks (t : Fin cfg0.N) (ch : Fin 64) :
    halves (iblk m c 0 t) (iblk m c 1 t) ch = fun r l =>
      m ((c.tc : Thread nD τ).loc main_arg0) (ix4 (grid0.coords t 0) ch (Fin.ofNat 256 r) (Fin.ofNat 256 l)) := by
  funext r l
  unfold halves
  by_cases h : l % 256 < 128
  · rw [if_pos h, block0]
    refine congrArg (fun z => m ((c.tc : Thread nD τ).loc main_arg0) (ix4 (grid0.coords t 0) ch (Fin.ofNat 256 r) z)) (Fin.ext ?_)
    show l % 128 = l % 256; omega
  · rw [if_neg h, block1]
    refine congrArg (fun z => m ((c.tc : Thread nD τ).loc main_arg0) (ix4 (grid0.coords t 0) ch (Fin.ofNat 256 r) z)) (Fin.ext ?_)
    show 128 + (l - 128) % 128 = l % 256; omega

/-- The two halves of the depth side by side are the depth. -/
theorem depth_blocks (t : Fin cfg0.N) :
    sideBySide (iblk m c 2 t) (iblk m c 3 t) = fun r l =>
      m ((c.tc : Thread nD τ).loc main_arg1) (ix4 (grid0.coords t 0) 0 (Fin.ofNat 256 r) (Fin.ofNat 256 l)) := by
  funext r l
  unfold sideBySide
  by_cases h : l % 256 < 128
  · rw [if_pos h, block2]
    refine congrArg (fun z => m ((c.tc : Thread nD τ).loc main_arg1) (ix4 (grid0.coords t 0) 0 (Fin.ofNat 256 r) z)) (Fin.ext ?_)
    show l % 128 = l % 256; omega
  · rw [if_neg h, block3]
    refine congrArg (fun z => m ((c.tc : Thread nD τ).loc main_arg1) (ix4 (grid0.coords t 0) 0 (Fin.ofNat 256 r) z)) (Fin.ext ?_)
    show 128 + (l - 128) % 128 = l % 256; omega

/-- THE KERNEL'S RESULT as a function of its two arguments. -/
def result (x : S8x64x256x256.Idx → EReal) (d : S8x1x256x256.Idx → EReal) (i : S8x64x128x128.Idx) : EReal :=
  Math.kerAt (fun r l => x (ix4 (i 0) (i 1) (Fin.ofNat 256 r) (Fin.ofNat 256 l)))
    (fun r l => d (ix4 (i 0) 0 (Fin.ofNat 256 r) (Fin.ofNat 256 l))) (i 2).val (i 3).val

theorem result_at (x : S8x64x256x256.Idx → EReal) (d : S8x1x256x256.Idx → EReal) (i : S8x64x128x128.Idx) (n : Fin 8) (ch : Fin 64)
    (r l : ℕ) (h0 : (i 0).val = n.val) (h1 : (i 1).val = ch.val) (h2 : (i 2).val = r) (h3 : (i 3).val = l) :
    result x d i = Math.kerAt (fun r l => x (ix4 n ch (Fin.ofNat 256 r) (Fin.ofNat 256 l)))
      (fun r l => d (ix4 n 0 (Fin.ofNat 256 r) (Fin.ofNat 256 l))) r l := by
  subst h2 h3
  obtain rfl : i 0 = n := Fin.ext h0
  obtain rfl : i 1 = ch := Fin.ext h1
  rfl

/-- The result array after the run. -/
theorem final : (dats m 0 c).arrAt 4 cfg0.N
    = result (m ((c.tc : Thread nD τ).loc main_arg0)) (m ((c.tc : Thread nD τ).loc main_arg1)) := by
  refine (dats m 0 c).arrAt_eq_of_covers 4 _ (by decide +kernel) fun t hf y => ?_
  blk_simp
  rw [after0_4, outs_apply]
  have b0 : (y 0).val < 1 := (y 0).isLt
  have b1 : (y 1).val < 64 := (y 1).isLt
  refine Eq.trans ?_ (result_at _ _ _ (grid0.coords t 0) (y 1) (y 2).val (y 3).val ?_ ?_ ?_ ?_).symm
  · exact congrFun (congrFun (congr (congrArg Math.kerAt (halves_blocks m c t (y 1))) (depth_blocks m c t)) _) _
  all_goals blk_simp [index4]

end Cert.Pool

end
-- ==== Proof.Ref.lean ====
/- The reference's result as one term of its two arguments, and its value at an index: the average of `Math.refAt`. -/
module

public import proofs.«01_k».proof.ReferenceIdeal
public import proofs.«01_k».proof.Proof.Gen.ReferenceIdeal
public import proofs.«01_k».proof.Proof.Gen.ReferenceIdeal.Run
public import proofs.«01_k».proof.Proof.Math

@[expose] public section

set_option maxRecDepth 16384

noncomputable section

namespace Cert.Patches

open Idealize.ShloMosaic Cert.ReferenceIdeal Cert.ReferenceIdeal.Gen Cert.ReferenceIdeal.Facts

variable {F : FTy → Type} [FloatOps F]

/-- The input in its frame of zeros. -/
def frameX (x : FVec F S8x64x256x256 .f32) : FVec F S8x64x258x258 .f32 :=
  pad S8x64x258x258 ![0, 0, 1, 1] ![0, 0, 1, 1] ![0, 0, 0, 0] x (sitofp .f32 (constantI S_ 32 0#32))
    pads_S8x64x256x256_S8x64x258x258_000_000_110_110 h_S_

/-- A strided slice of it as one of the nine patches. -/
def stripX (v : FVec F S8x64x128x128 .f32) : FVec F S8x64x1x128x128 .f32 :=
  broadcastInDim S8x64x1x128x128 ![0, 1, 3, 4] bcast_S8x64x128x128_S8x64x1x128x128_0_1_3_4 v

/-- The input's nine patches. -/
def patX (x : FVec F S8x64x256x256 .f32) : FVec F S8x64x9x128x128 .f32 :=
  concatenate S8x64x9x128x128 2
    [⟨S8x64x1x128x128, stripX (Host.slice S8x64x128x128 ![0, 0, 0, 0] ![1, 1, 2, 2] (frameX x)
        slicesBy_S8x64x258x258_S8x64x128x128_0s1_0s1_0s2_0s2)⟩,
     ⟨S8x64x1x128x128, stripX (Host.slice S8x64x128x128 ![0, 0, 0, 1] ![1, 1, 2, 2] (frameX x)
        slicesBy_S8x64x258x258_S8x64x128x128_0s1_0s1_0s2_1s2)⟩,
     ⟨S8x64x1x128x128, stripX (Host.slice S8x64x128x128 ![0, 0, 0, 2] ![1, 1, 2, 2] (frameX x)
        slicesBy_S8x64x258x258_S8x64x128x128_0s1_0s1_0s2_2s2)⟩,
     ⟨S8x64x1x128x128, stripX (Host.slice S8x64x128x128 ![0, 0, 1, 0] ![1, 1, 2, 2] (frameX x)
        slicesBy_S8x64x258x258_S8x64x128x128_0s1_0s1_1s2_0s2)⟩,
     ⟨S8x64x1x128x128, stripX (Host.slice S8x64x128x128 ![0, 0, 1, 1] ![1, 1, 2, 2] (frameX x)
        slicesBy_S8x64x258x258_S8x64x128x128_0s1_0s1_1s2_1s2)⟩,
     ⟨S8x64x1x128x128, stripX (Host.slice S8x64x128x128 ![0, 0, 1, 2] ![1, 1, 2, 2] (frameX x)
        slicesBy_S8x64x258x258_S8x64x128x128_0s1_0s1_1s2_2s2)⟩,
     ⟨S8x64x1x128x128, stripX (Host.slice S8x64x128x128 ![0, 0, 2, 0] ![1, 1, 2, 2] (frameX x)
        slicesBy_S8x64x258x258_S8x64x128x128_0s1_0s1_2s2_0s2)⟩,
     ⟨S8x64x1x128x128, stripX (Host.slice S8x64x128x128 ![0, 0, 2, 1] ![1, 1, 2, 2] (frameX x)
        slicesBy_S8x64x258x258_S8x64x128x128_0s1_0s1_2s2_1s2)⟩,
     ⟨S8x64x1x128x128, stripX (Host.slice S8x64x128x128 ![0, 0, 2, 2] ![1, 1, 2, 2] (frameX x)
        slicesBy_S8x64x258x258_S8x64x128x128_0s1_0s1_2s2_2s2)⟩]
    concatenates_S8x64x1x128x128_S8x64x1x128x128_S8x64x1x128x128_S8x64x1x128x128_S8x64x1x128x128_S8x64x1x128x128_S8x64x1x128x128_S8x64x1x128x128_S8x64x1x128x128_S8x64x9x128x128_d2

/-- The depth in its frame of zeros. -/
def frameD (x : FVec F S8x1x256x256 .f32) : FVec F S8x1x258x258 .f32 :=
  pad S8x1x258x258 ![0, 0, 1, 1] ![0, 0, 1, 1] ![0, 0, 0, 0] x (sitofp .f32 (constantI S_ 32 0#32))
    pads_S8x1x256x256_S8x1x258x258_000_000_110_110 h_S_

/-- A strided slice of it as one of the nine patches. -/
def stripD (v : FVec F S8x1x128x128 .f32) : FVec F S8x1x1x128x128 .f32 :=
  broadcastInDim S8x1x1x128x128 ![0, 1, 3, 4] bcast_S8x1x128x128_S8x1x1x128x128_0_1_3_4 v

/-- The depth's nine patches. -/
def patD (x : FVec F S8x1x256x256 .f32) : FVec F S8x1x9x128x128 .f32 :=
  concatenate S8x1x9x128x128 2
    [⟨S8x1x1x128x128, stripD (Host.slice S8x1x128x128 ![0, 0, 0, 0] ![1, 1, 2, 2] (frameD x)
        slicesBy_S8x1x258x258_S8x1x128x128_0s1_0s1_0s2_0s2)⟩,
     ⟨S8x1x1x128x128, stripD (Host.slice S8x1x128x128 ![0, 0, 0, 1] ![1, 1, 2, 2] (frameD x)
        slicesBy_S8x1x258x258_S8x1x128x128_0s1_0s1_0s2_1s2)⟩,
     ⟨S8x1x1x128x128, stripD (Host.slice S8x1x128x128 ![0, 0, 0, 2] ![1, 1, 2, 2] (frameD x)
        slicesBy_S8x1x258x258_S8x1x128x128_0s1_0s1_0s2_2s2)⟩,
     ⟨S8x1x1x128x128, stripD (Host.slice S8x1x128x128 ![0, 0, 1, 0] ![1, 1, 2, 2] (frameD x)
        slicesBy_S8x1x258x258_S8x1x128x128_0s1_0s1_1s2_0s2)⟩,
     ⟨S8x1x1x128x128, stripD (Host.slice S8x1x128x128 ![0, 0, 1, 1] ![1, 1, 2, 2] (frameD x)
        slicesBy_S8x1x258x258_S8x1x128x128_0s1_0s1_1s2_1s2)⟩,
     ⟨S8x1x1x128x128, stripD (Host.slice S8x1x128x128 ![0, 0, 1, 2] ![1, 1, 2, 2] (frameD x)
        slicesBy_S8x1x258x258_S8x1x128x128_0s1_0s1_1s2_2s2)⟩,
     ⟨S8x1x1x128x128, stripD (Host.slice S8x1x128x128 ![0, 0, 2, 0] ![1, 1, 2, 2] (frameD x)
        slicesBy_S8x1x258x258_S8x1x128x128_0s1_0s1_2s2_0s2)⟩,
     ⟨S8x1x1x128x128, stripD (Host.slice S8x1x128x128 ![0, 0, 2, 1] ![1, 1, 2, 2] (frameD x)
        slicesBy_S8x1x258x258_S8x1x128x128_0s1_0s1_2s2_1s2)⟩,
     ⟨S8x1x1x128x128, stripD (Host.slice S8x1x128x128 ![0, 0, 2, 2] ![1, 1, 2, 2] (frameD x)
        slicesBy_S8x1x258x258_S8x1x128x128_0s1_0s1_2s2_2s2)⟩]
    concatenates_S8x1x1x128x128_S8x1x1x128x128_S8x1x1x128x128_S8x1x1x128x128_S8x1x1x128x128_S8x1x1x128x128_S8x1x1x128x128_S8x1x1x128x128_S8x1x1x128x128_S8x1x9x128x128_d2

/-- The depth's patches without the channel. -/
def depthPat (d : FVec F S8x1x256x256 .f32) : FVec F S8x9x128x128 .f32 :=
  shapeCast S8x9x128x128 (patD d) shapeCasts_S8x1x9x128x128_S8x9x128x128

/-- The patches of an image of ones. -/
def onesPat : FVec F S8x9x128x128 .f32 :=
  depthPat (broadcastInDim S8x1x256x256 ![] bcast_S_S8x1x256x256 (constant S_ .f32 0x3F800000#32))

/-- The reference's result. -/
def refTerm (x : FVec F S8x64x256x256 .f32) (d : FVec F S8x1x256x256 .f32) : FVec F S8x64x128x128 .f32 :=
  Host.divf (Host.reduceAdd (mulf (patX x) (broadcastInDim S8x64x9x128x128 ![0, 1, 2, 3, 4] bcast_S8x1x9x128x128_S8x64x9x128x128_0_1_2_3_4 (broadcastInDim S8x1x9x128x128 ![0, 2, 3, 4] bcast_S8x9x128x128_S8x1x9x128x128_0_2_3_4 (mulf (Host.exp (Host.negf (Host.absf (subf (depthPat d) (broadcastInDim S8x9x128x128 ![0, 1, 2, 3] bcast_S8x1x128x128_S8x9x128x128_0_1_2_3 (broadcastInDim S8x1x128x128 ![0, 2, 3] bcast_S8x128x128_S8x1x128x128_0_2_3 (shapeCast S8x128x128 (extractStridedSlice S8x1x128x128 ![0, 4, 0, 0] (depthPat d) slices_S8x9x128x128_S8x1x128x128_0_4_0_0) shapeCasts_S8x1x128x128_S8x128x128))))))) onesPat)))) (constant S_ .f32 0x00000000#32) reducesTo_S8x64x9x128x128_S8x64x128x128_d2 h_S_) (broadcastInDim S8x64x128x128 ![0, 1, 2, 3] bcast_S8x1x128x128_S8x64x128x128_0_1_2_3 (broadcastInDim S8x1x128x128 ![0, 2, 3] bcast_S8x128x128_S8x1x128x128_0_2_3 (Host.reduceAdd onesPat (constant S_ .f32 0x00000000#32) reducesTo_S8x9x128x128_S8x128x128_d1 h_S_)))

set_option maxHeartbeats 4000000 in
/-- It is what the reference's program leaves. -/
theorem res_eq (m : (ℓ : Loc nD τ sig) → Buf (Elt F) ℓ) (c : Dev nD) : Cert.ReferenceIdeal.Value.res_main_v79 m c =
   refTerm (m ((c.tc : Thread nD τ).loc main_arg0)) (m ((c.tc : Thread nD τ).loc main_arg1)) := by
  unfold refTerm onesPat depthPat patX patD stripX stripD frameX frameD Cert.ReferenceIdeal.Value.res_main_v79; rfl

/-- An entry named by its numbers. -/
theorem entry {N C : ℕ} (x : FVec Ideal ⟨4, ![N, C, 256, 256]⟩ .f32) (n : Fin N) (c : Fin C) (a b r s : ℕ) (ha : a < 256) (hb : b < 256)
    (har : a = r) (hbs : b = s) :
    x (ix4 n c ⟨a, ha⟩ ⟨b, hb⟩) = x (ix4 n c (Fin.ofNat 256 r) (Fin.ofNat 256 s)) := by
  subst har hbs
  congr 2 <;> exact Fin.ext (Nat.mod_eq_of_lt (by assumption)).symm

/-- A case distinction is read case by case. -/
theorem peel {α : Type} {p : Prop} [Decidable p] {a : p → α} {b : ¬p → α} {r : α} (h1 : ∀ h, a h = r) (h2 : ∀ h, b h = r) :
    dite p a b = r := by
  by_cases h : p
  · rw [dif_pos h, h1]
  · rw [dif_neg h, h2]

/-- The frame's zero. -/
theorem frame_zero : (FloatOps.sitofp .f32 (0#32) : Ideal .f32) = (0 : EReal) := by
  show (((0#32).toInt : ℝ) : EReal) = 0
  simp

/-- A patch of an image of the input's size: the framed image at every other row and column. -/
theorem patX_apply (x : FVec Ideal S8x64x256x256 .f32) (n : Fin 8) (c : Fin 64) (k : Fin 9) (i j : Fin 128) :
    patX x (ix5 n c k i j) = Math.framed (fun r c' => x (ix4 n c (Fin.ofNat 256 r) (Fin.ofNat 256 c')))
      (2 * i + k.val / 3) (2 * j + k.val % 3) := by
  unfold patX stripX frameX
  pointwise
  unfold Math.framed
  repeat' refine peel (fun h => ?_) (fun h => ?_)
  all_goals first
    | (rw [if_pos (by omega)]; exact entry x n c _ _ _ _ _ _ (by omega) (by omega))
    | (rw [if_neg (by omega)]; exact frame_zero)

/-- A patch of an image of the depth's size, likewise. -/
theorem patD_apply (x : FVec Ideal S8x1x256x256 .f32) (n : Fin 8) (k : Fin 9) (i j : Fin 128) :
    patD x (ix5 n 0 k i j) = Math.framed (fun r c' => x (ix4 n 0 (Fin.ofNat 256 r) (Fin.ofNat 256 c')))
      (2 * i + k.val / 3) (2 * j + k.val % 3) := by
  unfold patD stripD frameD
  pointwise
  unfold Math.framed
  repeat' refine peel (fun h => ?_) (fun h => ?_)
  all_goals first
    | (rw [if_pos (by omega)]; exact entry x n 0 _ _ _ _ _ _ (by omega) (by omega))
    | (rw [if_neg (by omega)]; exact frame_zero)

/-- THE REFERENCE'S RESULT at an index. -/
theorem refTerm_apply (x : FVec Ideal S8x64x256x256 .f32) (d : FVec Ideal S8x1x256x256 .f32) (n : Fin 8) (c : Fin 64)
    (i j : Fin 128) :
    refTerm x d (ix4 n c i j) = Math.refAt (fun r c' => x (ix4 n c (Fin.ofNat 256 r) (Fin.ofNat 256 c')))
      (fun r c' => d (ix4 n 0 (Fin.ofNat 256 r) (Fin.ofNat 256 c'))) i j := by
  have hone : (fun r c' : ℕ => (broadcastInDim S8x1x256x256 ![] bcast_S_S8x1x256x256 (constant S_ .f32 0x3F800000#32) :
      FVec Ideal S8x1x256x256 .f32) (ix4 n 0 (Fin.ofNat 256 r) (Fin.ofNat 256 c'))) = fun _ _ => (1 : EReal) :=
    funext fun r => funext fun c' => Ideal.ofBits_one_f32
  unfold refTerm onesPat depthPat
  pointwise
  simp only [patX_apply, patD_apply]
  rw [hone]
  rfl

end Cert.Patches

end
-- ==== Proof.Algebraic.lean ====
/- THE VALUE CLAIM: at finite centre depths the kernel and the reference leave the same array. -/
module

public import proofs.«01_k».proof.Defs
public import proofs.«01_k».proof.Proof.KernelValue
public import proofs.«01_k».proof.Proof.Ref
public import Idealize.ShloMosaic.Lib.WordCmp

@[expose] public section

set_option maxRecDepth 16384

noncomputable section

namespace Cert.Algebraic

open Idealize.ShloMosaic Idealize.ShloMosaic.TcCoe Idealize.SL.Sem

/-- The side conditions the precondition states. -/
theorem preFacts : Cert.Pre_centres_finite.Facts := ⟨by decide, by decide⟩

/-- The infinity the precondition compares with. -/
theorem ofBits_inf : Ideal.ofBits .f32 0x7F800000#32 = ⊤ := by
  simp [Ideal.ofBits, Ideal.ieee]

/-- A number of finite size is neither infinity. -/
theorem finite_of_abs (a : EReal) (h : max a (-a) < ⊤) : a ≠ ⊤ ∧ a ≠ ⊥ :=
  ⟨fun e => by simp [e] at h, fun e => by simp [e] at h⟩

/-- Where the precondition holds the depth at a window's centre is neither infinity. -/
theorem centre (x : FVec Ideal Cert.Pre_centres_finite.S8x64x256x256 .f32) (d : FVec Ideal Cert.Pre_centres_finite.S8x1x256x256 .f32)
    (h : @Cert.Pre_centres_finite.fn preFacts Ideal _ x d = fun _ => 1#1) (n : Fin 8) (i j : Fin 128) :
    d (ix4 n 0 (Fin.ofNat 256 (2 * i)) (Fin.ofNat 256 (2 * j))) ≠ ⊤ ∧ d (ix4 n 0 (Fin.ofNat 256 (2 * i)) (Fin.ofNat 256 (2 * j))) ≠ ⊥ := by
  have h1 := congrFun h (ix4 n 0 i j)
  unfold Cert.Pre_centres_finite.fn at h1
  revert h1
  pointwise
  rw [WordCmp.ofBool_decide_eq_one_iff, ofBits_inf, Cert.Patches.entry d n 0 _ _ _ _ _ _ rfl rfl]
  exact fun h2 => finite_of_abs _ h2

/-- The two results are one function of the arguments. -/
theorem results (x : FVec Ideal Cert.ReferenceIdeal.S8x64x256x256 .f32) (d : FVec Ideal Cert.ReferenceIdeal.S8x1x256x256 .f32)
    (h : ∀ (n : Fin 8) (i j : Fin 128), d (ix4 n 0 (Fin.ofNat 256 (2 * i)) (Fin.ofNat 256 (2 * j))) ≠ ⊤
      ∧ d (ix4 n 0 (Fin.ofNat 256 (2 * i)) (Fin.ofNat 256 (2 * j))) ≠ ⊥) :
    Cert.Patches.refTerm x d = Cert.Pool.result x d := by
  funext y
  obtain ⟨n, c, i, j, rfl⟩ : ∃ (n : Fin 8) (c : Fin 64) (i j : Fin 128), y = ix4 n c i j := ⟨y 0, y 1, y 2, y 3, eq_ix4 y⟩
  rw [Cert.Patches.refTerm_apply]
  exact (Cert.Math.agree _ _ i j i.isLt j.isLt (h n i j).1 (h n i j).2).symm

theorem claim : Cert.algebraic_KernelIdeal_ReferenceIdeal_pre_centres_finite (hKernelIdeal := Cert.KernelIdeal.Gen.facts)
    (hReferenceIdeal := Cert.ReferenceIdeal.Gen.facts) (hPre_centres_finite := preFacts) := by
  intro m g m' g' hpre hagree
  refine ⟨fun c => Cert.Pool.result (m ((c.tc : Thread Cert.KernelIdeal.nD Cert.KernelIdeal.τ).loc Cert.KernelIdeal.main_arg0))
    (m ((c.tc : Thread Cert.KernelIdeal.nD Cert.KernelIdeal.τ).loc Cert.KernelIdeal.main_arg1)), ?_, ?_⟩
  · refine (θ_run Cert.KernelIdeal.defs _ _).mono (fun r h c => ⟨?_, ?_, ?_⟩) (Cert.KernelIdeal.Gen.run_main (F := Ideal) m g)
    · exact (h.out_eq c 4).trans (Cert.Pool.final m c)
    · exact h.in_eq c 0 rfl
    · exact h.in_eq c 2 rfl
  · refine (θ_run Cert.ReferenceIdeal.defs _ _).mono (fun r h c => ⟨?_, (h c).2⟩) (Cert.ReferenceIdeal.Value.run (F := Ideal) m' g')
    refine (h c).1.trans ((Cert.Patches.res_eq m' c).trans ?_)
    rw [(hagree c).1, (hagree c).2]
    exact results _ _ fun n i j => centre _ _ (hpre c) n i j

end Cert.Algebraic

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frames
public import proofs.«01_k».proof.Proof.Algebraic

@[expose] public section

noncomputable section

namespace Cert.Proof

theorem claim : Cert.Claim :=
  ⟨Cert.Kernel.Gen.facts, Cert.KernelIdeal.Gen.facts, Cert.ReferenceIdeal.Gen.facts, Cert.Algebraic.preFacts,
    Cert.Frames.kernel,
    Cert.Frames.kernelIdeal, fun m ρ _ => Cert.Frames.kernelIdeal m ρ trivial,
    Cert.Frames.referenceIdeal, fun m ρ _ => Cert.Frames.referenceIdeal m ρ trivial,
    trivial, Cert.Algebraic.claim⟩

end Cert.Proof

end
